-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S64x576x256 : Shape := ⟨3, ![64, 576, 256]⟩
abbrev S1024x256 : Shape := ⟨2, ![1024, 256]⟩
abbrev S_ : Shape := ⟨0, ![]⟩

class Facts : Prop where
  bcast_S_S64x576x256 : S_.BroadcastsInDim S64x576x256 (![] : Fin 0 → Fin S64x576x256.rank)
  reducesTo_S64x576x256_S_d0_1_2 : S64x576x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S64x576x256 .f32) (main_arg1 : FVec F S1024x256 .f32) (main_arg2 : FVec F S_ .f32) (main_arg3 : IVec S_ 32) : IVec S_ 1 :=
  let main_v0 : FVec F S64x576x256 .f32 := Host.absf main_arg0
  let main_cst : FVec F S_ .f32 := constant S_ .f32 0x7F800000#32
  let main_v1 : FVec F S64x576x256 .f32 := broadcastInDim S64x576x256 ![] bcast_S_S64x576x256 main_cst
  let main_v2 : IVec S64x576x256 1 := cmpf .olt main_v0 main_v1
  let main_c : IVec S_ 1 := constantI S_ 1 1#1
  let main_v3 : IVec S_ 1 := (fun x v => Host.reduce IntOp.andi x v reducesTo_S64x576x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S64x576x256 : Shape := ⟨3, ![64, 576, 256]⟩
abbrev S1024x256 : Shape := ⟨2, ![1024, 256]⟩
abbrev S_ : Shape := ⟨0, ![]⟩
abbrev S1x1 : Shape := ⟨2, ![1, 1]⟩
abbrev S36864x1024 : Shape := ⟨2, ![36864, 1024]⟩
abbrev S1x576x256 : Shape := ⟨3, ![1, 576, 256]⟩
abbrev S576x1024 : Shape := ⟨2, ![576, 1024]⟩
abbrev S1024 : Shape := ⟨1, ![1024]⟩
abbrev S1x1024 : Shape := ⟨2, ![1, 1024]⟩
abbrev S576x256 : Shape := ⟨2, ![576, 256]⟩
abbrev S256x576 : Shape := ⟨2, ![256, 576]⟩
abbrev S64x4x576 : Shape := ⟨3, ![64, 4, 576]⟩
abbrev S64x1x256 : Shape := ⟨3, ![64, 1, 256]⟩
abbrev S64x256 : Shape := ⟨2, ![64, 256]⟩
abbrev S64x1x64 : Shape := ⟨3, ![64, 1, 64]⟩
abbrev S64x64 : Shape := ⟨2, ![64, 64]⟩
abbrev S64x1x192 : Shape := ⟨3, ![64, 1, 192]⟩
abbrev S64x192 : Shape := ⟨2, ![64, 192]⟩
abbrev S64x1x128 : Shape := ⟨3, ![64, 1, 128]⟩
abbrev S64x128 : Shape := ⟨2, ![64, 128]⟩
abbrev S64x9x256 : Shape := ⟨3, ![64, 9, 256]⟩
abbrev S576 : Shape := ⟨1, ![576]⟩
abbrev S576x1 : Shape := ⟨2, ![576, 1]⟩
abbrev S64x576 : Shape := ⟨2, ![64, 576]⟩
abbrev S64x1x576 : Shape := ⟨3, ![64, 1, 576]⟩
abbrev S64x576x1024 : Shape := ⟨3, ![64, 576, 1024]⟩

abbrev nBuf : Space → Nat
  | .hbm => 17
  | .vmem => 10
  | .smem => 0
  | _ => 0

abbrev bufTy : (tb : Table) → Fin (tcTables nBuf tb) → BufTy
  | .hbm, ⟨0, _⟩ => ⟨S64x576x256, .f32⟩
  | .hbm, ⟨1, _⟩ => ⟨S1024x256, .f32⟩
  | .hbm, ⟨2, _⟩ => ⟨S_, .f32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S36864x1024, .f32⟩
  | .hbm, ⟨13, _⟩ => ⟨S36864x1024, .f32⟩
  | .hbm, ⟨14, _⟩ => ⟨S64x576x256, .f32⟩
  | .hbm, ⟨15, _⟩ => ⟨S64x576x1024, .f32⟩
  | .hbm, ⟨16, _⟩ => ⟨S64x576x1024, .f32⟩
  | .local _ .vmem, ⟨0, _⟩ => ⟨S1x1, .f32⟩
  | .local _ .vmem, ⟨1, _⟩ => ⟨S1x576x256, .f32⟩
  | .local _ .vmem, ⟨2, _⟩ => ⟨S1x576x256, .f32⟩
  | .local _ .vmem, ⟨3, _⟩ => ⟨S1024x256, .f32⟩
  | .local _ .vmem, ⟨4, _⟩ => ⟨S576x1024, .f32⟩
  | .local _ .vmem, ⟨5, _⟩ => ⟨S576x1024, .f32⟩
  | .local _ .vmem, ⟨6, _⟩ => ⟨S576x1024, .f32⟩
  | .local _ .vmem, ⟨7, _⟩ => ⟨S576x1024, .f32⟩
  | .local _ .vmem, ⟨8, _⟩ => ⟨S1x576x256, .f32⟩
  | .local _ .vmem, ⟨9, _⟩ => ⟨S1x576x256, .f32⟩
  | _, _ => ⟨S64x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x576x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S576x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S576x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x576x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x576x256 : Shape := ⟨3, ![64, 576, 256]⟩
abbrev S1024x256 : Shape := ⟨2, ![1024, 256]⟩
abbrev S_ : Shape := ⟨0, ![]⟩
abbrev S64x256x576 : Shape := ⟨3, ![64, 256, 576]⟩
abbrev S36864x256 : Shape := ⟨2, ![36864, 256]⟩
abbrev S36864 : Shape := ⟨1, ![36864]⟩
abbrev S36864x1 : Shape := ⟨2, ![36864, 1]⟩
abbrev S1024 : Shape := ⟨1, ![1024]⟩
abbrev S1x1024 : Shape := ⟨2, ![1, 1024]⟩
abbrev S36864x1024 : Shape := ⟨2, ![36864, 1024]⟩
abbrev S256x1024 : Shape := ⟨2, ![256, 1024]⟩
abbrev S36864x2 : Shape := ⟨2, ![36864, 2]⟩
abbrev S64x576x1024 : Shape := ⟨3, ![64, 576, 1024]⟩

abbrev nBuf : Space → Nat
  | .hbm => 95
  | .vmem => 0
  | .smem => 0
  | _ => 0

abbrev bufTy : (tb : Table) → Fin (tcTables nBuf tb) → BufTy
  | .hbm, ⟨0, _⟩ => ⟨S64x576x256, .f32⟩
  | .hbm, ⟨1, _⟩ => ⟨S1024x256, .f32⟩
  | .hbm, ⟨2, _⟩ => ⟨S_, .f32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x256x576, .f32⟩
  | .hbm, ⟨12, _⟩ => ⟨S36864x256, .f32⟩
  | .hbm, ⟨13, _⟩ => ⟨S36864x256, .f32⟩
  | .hbm, ⟨14, _⟩ => ⟨S_, .f32⟩
  | .hbm, ⟨15, _⟩ => ⟨S36864, .f32⟩
  | .hbm, ⟨16, _⟩ => ⟨S36864x1, .f32⟩
  | .hbm, ⟨17, _⟩ => ⟨S1024x256, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S36864x1024, .f32⟩
  | .hbm, ⟨22, _⟩ => ⟨S36864x1024, .f32⟩
  | .hbm, ⟨23, _⟩ => ⟨S36864x1024, .f32⟩
  | .hbm, ⟨24, _⟩ => ⟨S256x1024, .f32⟩
  | .hbm, ⟨25, _⟩ => ⟨S36864x1024, .f32⟩
  | .hbm, ⟨26, _⟩ => ⟨S_, .f32⟩
  | .hbm, ⟨27, _⟩ => ⟨S36864x1024, .f32⟩
  | .hbm, ⟨28, _⟩ => ⟨S36864x1024, .f32⟩
  | .hbm, ⟨29, _⟩ => ⟨S36864x1024, .f32⟩
  | .hbm, ⟨30, _⟩ => ⟨S36864x1024, .f32⟩
  | .hbm, ⟨31, _⟩ => ⟨S36864x1024, .f32⟩
  | .hbm, ⟨32, _⟩ => ⟨S36864x1024, .f32⟩
  | .hbm, ⟨33, _⟩ => ⟨S_, .f32⟩
  | .hbm, ⟨34, _⟩ => ⟨S36864, .f32⟩
  | .hbm, ⟨35, _⟩ => ⟨S_, .f32⟩
  | .hbm, ⟨36, _⟩ => ⟨S36864, .f32⟩
  | .hbm, ⟨37, _⟩ => ⟨S36864, .f32⟩
  | .hbm, ⟨38, _⟩ => ⟨S36864x1, .f32⟩
  | .hbm, ⟨39, _⟩ => ⟨S36864x1024, .f32⟩
  | .hbm, ⟨40, _⟩ => ⟨S36864x1024, .f32⟩
  | .hbm, ⟨41, _⟩ => ⟨S36864x1024, .f32⟩
  | .hbm, ⟨42, _⟩ => ⟨S_, .f32⟩
  | .hbm, ⟨43, _⟩ => ⟨S36864, .f32⟩
  | .hbm, ⟨44, _⟩ => ⟨S36864x1, .f32⟩
  | .hbm, ⟨45, _⟩ => ⟨S36864x1024, .f32⟩
  | .hbm, ⟨46, _⟩ => ⟨S36864x1024, .f32⟩
  | .hbm, ⟨47, _⟩ => ⟨S_, .f32⟩
  | .hbm, ⟨48, _⟩ => ⟨S36864, .f32⟩
  | .hbm, ⟨49, _⟩ => ⟨S_, .f32⟩
  | .hbm, ⟨50, _⟩ => ⟨S36864, .f32⟩
  | .hbm, ⟨51, _⟩ => ⟨S36864, .f32⟩
  | .hbm, ⟨52, _⟩ => ⟨S36864x1, .f32⟩
  | .hbm, ⟨53, _⟩ => ⟨S36864x1024, .f32⟩
  | .hbm, ⟨54, _⟩ => ⟨S36864x1024, .f32⟩
  | .hbm, ⟨55, _⟩ => ⟨S36864x1024, .f32⟩
  | .hbm, ⟨56, _⟩ => ⟨S_, .f32⟩
  | .hbm, ⟨57, _⟩ => ⟨S36864, .f32⟩
  | .hbm, ⟨58, _⟩ => ⟨S36864x1, .f32⟩
  | .hbm, ⟨59, _⟩ => ⟨S36864x1, .f32⟩
  | .hbm, ⟨60, _⟩ => ⟨S36864x1024, .f32⟩
  | .hbm, ⟨61, _⟩ => ⟨S36864x1024, .f32⟩
  | .hbm, ⟨62, _⟩ => ⟨S36864x1024, .i32⟩
  | .hbm, ⟨63, _⟩ => ⟨S_, .f32⟩
  | .hbm, ⟨64, _⟩ => ⟨S_, .i32⟩
  | .hbm, ⟨65, _⟩ => ⟨S36864, .f32⟩
  | .hbm, ⟨66, _⟩ => ⟨S36864, .i32⟩
  | .hbm, ⟨67, _⟩ => ⟨S_, .f32⟩
  | .hbm, ⟨68, _⟩ => ⟨S36864x1024, .f32⟩
  | .hbm, ⟨69, _⟩ => ⟨S36864, .i32⟩
  | .hbm, ⟨70, _⟩ => ⟨S_, .i32⟩
  | .hbm, ⟨71, _⟩ => ⟨S36864, .i32⟩
  | .hbm, ⟨72, _⟩ => ⟨S36864, .i1⟩
  | .hbm, ⟨73, _⟩ => ⟨S_, .i32⟩
  | .hbm, ⟨74, _⟩ => ⟨S36864, .i32⟩
  | .hbm, ⟨75, _⟩ => ⟨S36864, .i32⟩
  | .hbm, ⟨76, _⟩ => ⟨S36864, .i32⟩
  | .hbm, ⟨77, _⟩ => ⟨S_, .i32⟩
  | .hbm, ⟨78, _⟩ => ⟨S36864, .i32⟩
  | .hbm, ⟨79, _⟩ => ⟨S36864, .i1⟩
  | .hbm, ⟨80, _⟩ => ⟨S_, .i32⟩
  | .hbm, ⟨81, _⟩ => ⟨S36864, .i32⟩
  | .hbm, ⟨82, _⟩ => ⟨S36864, .i32⟩
  | .hbm, ⟨83, _⟩ => ⟨S36864, .i32⟩
  | .hbm, ⟨84, _⟩ => ⟨S36864x1, .i32⟩
  | .hbm, ⟨85, _⟩ => ⟨S36864x1, .i32⟩
  | .hbm, ⟨86, _⟩ => ⟨S36864x2, .i32⟩
  | .hbm, ⟨87, _⟩ => ⟨S_, .f32⟩
  | .hbm, ⟨88, _⟩ => ⟨S36864, .f32⟩
  | .hbm, ⟨89, _⟩ => ⟨S36864x1024, .f32⟩
  | .hbm, ⟨90, _⟩ => ⟨S36864x256, .f32⟩
  | .hbm, ⟨91, _⟩ => ⟨S64x256x576, .f32⟩
  | .hbm, ⟨92, _⟩ => ⟨S64x576x256, .f32⟩
  | .hbm, ⟨93, _⟩ => ⟨S64x576x1024, .f32⟩
  | .hbm, ⟨94, _⟩ => ⟨S64x576x1024, .f32⟩
  | _, _ => ⟨S64x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_cst_1 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_v34 : Ref sig .tc := ⟨.hbm, 61, rfl⟩
abbrev main_call1_v0 : Ref sig .tc := ⟨.hbm, 62, rfl⟩
abbrev main_call1_cst : Ref sig .tc := ⟨.hbm, 63, rfl⟩
abbrev main_call1_c : Ref sig .tc := ⟨.hbm, 64, rfl⟩
abbrev main_call1_v1_0 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_c : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_12 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proof.RefStages.lean ====
/- The reference program as lists of host operations, one list per step of its mathematics, and what each list
   computes: the precision, the logits, the softmax, the log-softmax, the nearest code of every row, its one-hot
   table and the results. -/
module

public import proofs.«01_k».proof.Proof.Gen.ReferenceIdeal
public import Idealize.ShloMosaic.Lib.StableHlo.Run
public import Idealize.ShloMosaic.Lib.Pipeline.Frame

@[expose] public section

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

/-! ## The mathematics, step by step -/

/-- The precision `0.5 / max (1 + exp p, 1e-10)` of the learnt parameter `p`. -/
def precision (p : FVec F S_ .f32) : FVec F S_ .f32 :=
  Host.divf (constant S_ .f32 0x3F000000#32)
    (maximumf (addf (constant S_ .f32 0x3F800000#32) (Host.exp p)) (constant S_ .f32 0x2EDBE6FF#32))

/-- The points to encode, one per row. -/
def points (ze : FVec F S64x576x256 .f32) : FVec F S36864x256 .f32 :=
  shapeCast S36864x256 (transpose S64x256x576 [0, 2, 1] ze transposes_S64x576x256_S64x256x576_0_2_1)
    shapeCasts_S64x256x576_S36864x256

/-- The logits of the points `x` over the codes `book`: minus the squared distance, times the precision `q`. -/
def logits (x : FVec F S36864x256 .f32) (book : FVec F S1024x256 .f32) (q : FVec F S_ .f32) : FVec F S36864x1024 .f32 :=
  mulf (Host.negf (subf
      (addf
        (broadcastInDim S36864x1024 ![0, 1] bcast_S36864x1_S36864x1024_0_1
          (broadcastInDim S36864x1 ![0] bcast_S36864_S36864x1_0
            (Host.reduceAdd (mulf x x) (constant S_ .f32 0x00000000#32) reducesTo_S36864x256_S36864_d1 h_S_)))
        (broadcastInDim S36864x1024 ![0, 1] bcast_S1x1024_S36864x1024_0_1
          (broadcastInDim S1x1024 ![1] bcast_S1024_S1x1024_1
            (Host.reduceAdd (mulf book book) (constant S_ .f32 0x00000000#32) reducesTo_S1024x256_S1024_d1 h_S_))))
      (mulf (broadcastInDim S36864x1024 ![] bcast_S_S36864x1024 (constant S_ .f32 0x40000000#32))
        (Host.dotGeneral dot_S36864x256_S256x1024_S36864x1024_1_0_0_1_n_n none x
          (transpose S256x1024 [1, 0] book transposes_S1024x256_S256x1024_1_0)))))
    (broadcastInDim S36864x1024 ![] bcast_S_S36864x1024 q)

/-- The logits less their row's greatest. -/
def shifted (l : FVec F S36864x1024 .f32) : FVec F S36864x1024 .f32 :=
  subf l (broadcastInDim S36864x1024 ![0, 1] bcast_S36864x1_S36864x1024_0_1
    (broadcastInDim S36864x1 ![0] bcast_S36864_S36864x1_0
      (maximumf (broadcastInDim S36864 ![] bcast_S_S36864 (constant S_ .f32 0xFF800000#32))
        (Host.reduce FloatOps.maximumf l (constant S_ .f32 0xFF800000#32) reducesTo_S36864x1024_S36864_d1 h_S_))))

/-- The sum of the exponentials of a row, as a column. -/
def expSum (d : FVec F S36864x1024 .f32) : FVec F S36864x1 .f32 :=
  broadcastInDim S36864x1 ![0] bcast_S36864_S36864x1_0
    (Host.reduceAdd (Host.exp d) (constant S_ .f32 0x00000000#32) reducesTo_S36864x1024_S36864_d1 h_S_)

/-- The softmax of the rows. -/
def softmax (l : FVec F S36864x1024 .f32) : FVec F S36864x1024 .f32 :=
  Host.divf (Host.exp (shifted l))
    (broadcastInDim S36864x1024 ![0, 1] bcast_S36864x1_S36864x1024_0_1 (expSum (shifted l)))

/-- The log-softmax of the rows. -/
def logSoftmax (l : FVec F S36864x1024 .f32) : FVec F S36864x1024 .f32 :=
  subf (shifted l)
    (broadcastInDim S36864x1024 ![0, 1] bcast_S36864x1_S36864x1024_0_1 (Host.log (expSum (shifted l))))

/-- The number of the nearest code of each row: the argmax of its logits. -/
def nearest (l : FVec F S36864x1024 .f32) : IVec S36864 32 := fun j =>
  (Host.argReduce reducer_argmax_f32_i32 l (iotaInDim S36864x1024 32 1) (constant S_ .f32 0xFF800000#32)
    (constantI S_ 32 0#32) reducesTo_S36864x1024_S36864_d1 h_S_ j).2

/-- Two columns of numbers side by side: the places the ones are written at. -/
def pairUp (a b : IVec S36864x1 32) : IVec S36864x2 32 :=
  concatenate S36864x2 1 [⟨S36864x1, a⟩, ⟨S36864x1, b⟩] concatenates_S36864x1_S36864x1_S36864x2_d1

/-- The row numbers as the scatter reads them, a negative one counted from the end. -/
def rowNumbers : IVec S36864 32 :=
  select (cmpi .slt (iotaInDim S36864 32 0) (broadcastInDim S36864 ![] bcast_S_S36864 (constantI S_ 32 0#32)))
    (addi (iotaInDim S36864 32 0) (broadcastInDim S36864 ![] bcast_S_S36864 (constantI S_ 32 36864#32)))
    (iotaInDim S36864 32 0)

/-- The code numbers as the scatter reads them, a negative one counted from the end. -/
def codeNumbers (k : IVec S36864 32) : IVec S36864 32 :=
  select (cmpi .slt k (broadcastInDim S36864 ![] bcast_S_S36864 (constantI S_ 32 0#32)))
    (addi k (broadcastInDim S36864 ![] bcast_S_S36864 (constantI S_ 32 1024#32)))
    k

/-- The table of zeros with a one at each row's code number `k`. -/
def oneHot (k : IVec S36864 32) : FVec F S36864x1024 .f32 :=
  Host.scatter scatter_S36864x1024_S36864x2_S36864_n_01_01_1 (fun _ b => b)
    (broadcastInDim S36864x1024 ![] bcast_S_S36864x1024 (constant S_ .f32 0x00000000#32))
    (pairUp (broadcastInDim S36864x1 ![0] bcast_S36864_S36864x1_0 rowNumbers)
      (broadcastInDim S36864x1 ![0] bcast_S36864_S36864x1_0 (codeNumbers k)))
    (broadcastInDim S36864 ![] bcast_S_S36864 (constant S_ .f32 0x3F800000#32))

/-- The codes that the table `e` picks, in the shape of the input. -/
def quantized (e : FVec F S36864x1024 .f32) (book : FVec F S1024x256 .f32) : FVec F S64x576x256 .f32 :=
  transpose S64x576x256 [0, 2, 1]
    (shapeCast S64x256x576 (Host.dotGeneral dot_S36864x1024_S1024x256_S36864x256_1_0_0_1_n_n none e book)
      shapeCasts_S36864x256_S64x256x576)
    transposes_S64x256x576_S64x576x256_0_2_1

/-- A table of rows cut into the batch's items. -/
def byItem (l : FVec F S36864x1024 .f32) : FVec F S64x576x1024 .f32 :=
  shapeCast S64x576x1024 l shapeCasts_S36864x1024_S64x576x1024

/-! ## The operations, step by step -/

/-- The operations that compute the precision (`main_v3`) and the table of logits (`main_v22`). -/
abbrev opsLogits : List (HloOp τ sig (Elt F)) :=
  [ unary main_arg2 main_v0 (Host.exp : (⟨S_, .f32⟩ : BufTy).Contents (Elt F) → (⟨S_, .f32⟩ : BufTy).Contents (Elt F)),
    nullary main_cst (constant S_ .f32 0x3F800000#32),
    binary main_cst main_v0 main_v1 (addf : (⟨S_, .f32⟩ : BufTy).Contents (Elt F) → (⟨S_, .f32⟩ : BufTy).Contents (Elt F) → (⟨S_, .f32⟩ : BufTy).Contents (Elt F)),
    nullary main_cst_0 (constant S_ .f32 0x2EDBE6FF#32),
    binary main_v1 main_cst_0 main_v2 (maximumf : (⟨S_, .f32⟩ : BufTy).Contents (Elt F) → (⟨S_, .f32⟩ : BufTy).Contents (Elt F) → (⟨S_, .f32⟩ : BufTy).Contents (Elt F)),
    nullary main_cst_1 (constant S_ .f32 0x3F000000#32),
    binary main_cst_1 main_v2 main_v3 (Host.divf : (⟨S_, .f32⟩ : BufTy).Contents (Elt F) → (⟨S_, .f32⟩ : BufTy).Contents (Elt F) → (⟨S_, .f32⟩ : BufTy).Contents (Elt F)),
    unary main_arg0 main_v4 ((transpose S64x256x576 [0, 2, 1] · transposes_S64x576x256_S64x256x576_0_2_1) : (⟨S64x576x256, .f32⟩ : BufTy).Contents (Elt F) → (⟨S64x256x576, .f32⟩ : BufTy).Contents (Elt F)),
    reshape main_v4 main_v5 (rfl : (.f32 : EltTy) = .f32) shapeCasts_S64x256x576_S36864x256,
    binary main_v5 main_v5 main_v6 (mulf : (⟨S36864x256, .f32⟩ : BufTy).Contents (Elt F) → (⟨S36864x256, .f32⟩ : BufTy).Contents (Elt F) → (⟨S36864x256, .f32⟩ : BufTy).Contents (Elt F)),
    nullary main_cst_2 (constant S_ .f32 0x00000000#32),
    binary main_v6 main_cst_2 main_v7 ((fun x v => Host.reduceAdd x v reducesTo_S36864x256_S36864_d1 h_S_) : (⟨S36864x256, .f32⟩ : BufTy).Contents (Elt F) → (⟨S_, .f32⟩ : BufTy).Contents (Elt F) → (⟨S36864, .f32⟩ : BufTy).Contents (Elt F)),
    unary main_v7 main_v8 (broadcastInDim S36864x1 ![0] bcast_S36864_S36864x1_0 : (⟨S36864, .f32⟩ : BufTy).Contents (Elt F) → (⟨S36864x1, .f32⟩ : BufTy).Contents (Elt F)),
    binary main_arg1 main_arg1 main_v9 (mulf : (⟨S1024x256, .f32⟩ : BufTy).Contents (Elt F) → (⟨S1024x256, .f32⟩ : BufTy).Contents (Elt F) → (⟨S1024x256, .f32⟩ : BufTy).Contents (Elt F)),
    nullary main_cst_3 (constant S_ .f32 0x00000000#32),
    binary main_v9 main_cst_3 main_v10 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v10 main_v11 (broadcastInDim S1x1024 ![1] bcast_S1024_S1x1024_1 : (⟨S1024, .f32⟩ : BufTy).Contents (Elt F) → (⟨S1x1024, .f32⟩ : BufTy).Contents (Elt F)),
    unary main_v8 main_v12 (broadcastInDim S36864x1024 ![0, 1] bcast_S36864x1_S36864x1024_0_1 : (⟨S36864x1, .f32⟩ : BufTy).Contents (Elt F) → (⟨S36864x1024, .f32⟩ : BufTy).Contents (Elt F)),
    unary main_v11 main_v13 (broadcastInDim S36864x1024 ![0, 1] bcast_S1x1024_S36864x1024_0_1 : (⟨S1x1024, .f32⟩ : BufTy).Contents (Elt F) → (⟨S36864x1024, .f32⟩ : BufTy).Contents (Elt F)),
    binary main_v12 main_v13 main_v14 (addf : (⟨S36864x1024, .f32⟩ : BufTy).Contents (Elt F) → (⟨S36864x1024, .f32⟩ : BufTy).Contents (Elt F) → (⟨S36864x1024, .f32⟩ : BufTy).Contents (Elt F)),
    unary main_arg1 main_v15 ((transpose S256x1024 [1, 0] · transposes_S1024x256_S256x1024_1_0) : (⟨S1024x256, .f32⟩ : BufTy).Contents (Elt F) → (⟨S256x1024, .f32⟩ : BufTy).Contents (Elt F)),
    binary main_v5 main_v15 main_v16 ((fun l r => Host.dotGeneral dot_S36864x256_S256x1024_S36864x1024_1_0_0_1_n_n none l r) : (⟨S36864x256, .f32⟩ : BufTy).Contents (Elt F) → (⟨S256x1024, .f32⟩ : BufTy).Contents (Elt F) → (⟨S36864x1024, .f32⟩ : BufTy).Contents (Elt F)),
    nullary main_cst_4 (constant S_ .f32 0x40000000#32),
    unary main_cst_4 main_v17 (broadcastInDim S36864x1024 ![] bcast_S_S36864x1024 : (⟨S_, .f32⟩ : BufTy).Contents (Elt F) → (⟨S36864x1024, .f32⟩ : BufTy).Contents (Elt F)),
    binary main_v17 main_v16 main_v18 (mulf : (⟨S36864x1024, .f32⟩ : BufTy).Contents (Elt F) → (⟨S36864x1024, .f32⟩ : BufTy).Contents (Elt F) → (⟨S36864x1024, .f32⟩ : BufTy).Contents (Elt F)),
    binary main_v14 main_v18 main_v19 (subf : (⟨S36864x1024, .f32⟩ : BufTy).Contents (Elt F) → (⟨S36864x1024, .f32⟩ : BufTy).Contents (Elt F) → (⟨S36864x1024, .f32⟩ : BufTy).Contents (Elt F)),
    unary main_v19 main_v20 (Host.negf : (⟨S36864x1024, .f32⟩ : BufTy).Contents (Elt F) → (⟨S36864x1024, .f32⟩ : BufTy).Contents (Elt F)),
    unary main_v3 main_v21 (broadcastInDim S36864x1024 ![] bcast_S_S36864x1024 : (⟨S_, .f32⟩ : BufTy).Contents (Elt F) → (⟨S36864x1024, .f32⟩ : BufTy).Contents (Elt F)),
    binary main_v20 main_v21 main_v22 (mulf : (⟨S36864x1024, .f32⟩ : BufTy).Contents (Elt F) → (⟨S36864x1024, .f32⟩ : BufTy).Contents (Elt F) → (⟨S36864x1024, .f32⟩ : BufTy).Contents (Elt F)) ]

/-- The operations of the softmax, from the logits to the probabilities (`main_v33`). -/
abbrev opsSoftmax : List (HloOp τ sig (Elt F)) :=
  [ nullary main_cst_5 (constant S_ .f32 0xFF800000#32),
    binary main_v22 main_cst_5 main_v23 ((fun x v => Host.reduce FloatOps.maximumf x v reducesTo_S36864x1024_S36864_d1 h_S_) : (⟨S36864x1024, .f32⟩ : BufTy).Contents (Elt F) → (⟨S_, .f32⟩ : BufTy).Contents (Elt F) → (⟨S36864, .f32⟩ : BufTy).Contents (Elt F)),
    nullary main_cst_6 (constant S_ .f32 0xFF800000#32),
    unary main_cst_6 main_v24 (broadcastInDim S36864 ![] bcast_S_S36864 : (⟨S_, .f32⟩ : BufTy).Contents (Elt F) → (⟨S36864, .f32⟩ : BufTy).Contents (Elt F)),
    binary main_v24 main_v23 main_v25 (maximumf : (⟨S36864, .f32⟩ : BufTy).Contents (Elt F) → (⟨S36864, .f32⟩ : BufTy).Contents (Elt F) → (⟨S36864, .f32⟩ : BufTy).Contents (Elt F)),
    unary main_v25 main_v26 (broadcastInDim S36864x1 ![0] bcast_S36864_S36864x1_0 : (⟨S36864, .f32⟩ : BufTy).Contents (Elt F) → (⟨S36864x1, .f32⟩ : BufTy).Contents (Elt F)),
    unary main_v26 main_v27 (broadcastInDim S36864x1024 ![0, 1] bcast_S36864x1_S36864x1024_0_1 : (⟨S36864x1, .f32⟩ : BufTy).Contents (Elt F) → (⟨S36864x1024, .f32⟩ : BufTy).Contents (Elt F)),
    binary main_v22 main_v27 main_v28 (subf : (⟨S36864x1024, .f32⟩ : BufTy).Contents (Elt F) → (⟨S36864x1024, .f32⟩ : BufTy).Contents (Elt F) → (⟨S36864x1024, .f32⟩ : BufTy).Contents (Elt F)),
    unary main_v28 main_v29 (Host.exp : (⟨S36864x1024, .f32⟩ : BufTy).Contents (Elt F) → (⟨S36864x1024, .f32⟩ : BufTy).Contents (Elt F)),
    nullary main_cst_7 (constant S_ .f32 0x00000000#32),
    binary main_v29 main_cst_7 main_v30 ((fun x v => Host.reduceAdd x v reducesTo_S36864x1024_S36864_d1 h_S_) : (⟨S36864x1024, .f32⟩ : BufTy).Contents (Elt F) → (⟨S_, .f32⟩ : BufTy).Contents (Elt F) → (⟨S36864, .f32⟩ : BufTy).Contents (Elt F)),
    unary main_v30 main_v31 (broadcastInDim S36864x1 ![0] bcast_S36864_S36864x1_0 : (⟨S36864, .f32⟩ : BufTy).Contents (Elt F) → (⟨S36864x1, .f32⟩ : BufTy).Contents (Elt F)),
    unary main_v31 main_v32 (broadcastInDim S36864x1024 ![0, 1] bcast_S36864x1_S36864x1024_0_1 : (⟨S36864x1, .f32⟩ : BufTy).Contents (Elt F) → (⟨S36864x1024, .f32⟩ : BufTy).Contents (Elt F)),
    binary main_v29 main_v32 main_v33 (Host.divf : (⟨S36864x1024, .f32⟩ : BufTy).Contents (Elt F) → (⟨S36864x1024, .f32⟩ : BufTy).Contents (Elt F) → (⟨S36864x1024, .f32⟩ : BufTy).Contents (Elt F)) ]

/-- The operations of the called log-softmax, from the logits to `main_v34`. -/
abbrev opsLogSoftmax : List (HloOp τ sig (Elt F)) :=
  [ TRef.nullary (TRef.of (T := ⟨S_, .f32⟩) main_call0_cst) (constant S_ .f32 0xFF800000#32),
    TRef.binary (TRef.of (T := ⟨S36864x1024, .f32⟩) main_v22) (TRef.of (T := ⟨S_, .f32⟩) main_call0_cst) (TRef.of (T := ⟨S36864, .f32⟩) main_call0_v0) (fun x v => Host.reduce FloatOps.maximumf x v reducesTo_S36864x1024_S36864_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S36864, .f32⟩) main_call0_v1) (broadcastInDim S36864 ![] bcast_S_S36864),
    TRef.binary (TRef.of (T := ⟨S36864, .f32⟩) main_call0_v1) (TRef.of (T := ⟨S36864, .f32⟩) main_call0_v0) (TRef.of (T := ⟨S36864, .f32⟩) main_call0_v2) maximumf,
    TRef.unary (TRef.of (T := ⟨S36864, .f32⟩) main_call0_v2) (TRef.of (T := ⟨S36864x1, .f32⟩) main_call0_v3) (broadcastInDim S36864x1 ![0] bcast_S36864_S36864x1_0),
    TRef.unary (TRef.of (T := ⟨S36864x1, .f32⟩) main_call0_v3) (TRef.of (T := ⟨S36864x1024, .f32⟩) main_call0_v4) (broadcastInDim S36864x1024 ![0, 1] bcast_S36864x1_S36864x1024_0_1),
    TRef.binary (TRef.of (T := ⟨S36864x1024, .f32⟩) main_v22) (TRef.of (T := ⟨S36864x1024, .f32⟩) main_call0_v4) (TRef.of (T := ⟨S36864x1024, .f32⟩) main_call0_v5) subf,
    TRef.unary (TRef.of (T := ⟨S36864x1024, .f32⟩) main_call0_v5) (TRef.of (T := ⟨S36864x1024, .f32⟩) main_call0_v6) Host.exp,
    TRef.nullary (TRef.of (T := ⟨S_, .f32⟩) main_call0_cst_1) (constant S_ .f32 0x00000000#32),
    TRef.binary (TRef.of (T := ⟨S36864x1024, .f32⟩) main_call0_v6) (TRef.of (T := ⟨S_, .f32⟩) main_call0_cst_1) (TRef.of (T := ⟨S36864, .f32⟩) main_call0_v7) (fun x v => Host.reduceAdd x v reducesTo_S36864x1024_S36864_d1 h_S_),
    TRef.unary (TRef.of (T := ⟨S36864, .f32⟩) main_call0_v7) (TRef.of (T := ⟨S36864x1, .f32⟩) main_call0_v8) (broadcastInDim S36864x1 ![0] bcast_S36864_S36864x1_0),
    TRef.unary (TRef.of (T := ⟨S36864x1, .f32⟩) main_call0_v8) (TRef.of (T := ⟨S36864x1, .f32⟩) main_call0_v9) Host.log,
    TRef.unary (TRef.of (T := ⟨S36864x1, .f32⟩) main_call0_v9) (TRef.of (T := ⟨S36864x1024, .f32⟩) main_call0_v10) (broadcastInDim S36864x1024 ![0, 1] bcast_S36864x1_S36864x1024_0_1),
    TRef.binary (TRef.of (T := ⟨S36864x1024, .f32⟩) main_call0_v5) (TRef.of (T := ⟨S36864x1024, .f32⟩) main_call0_v10) (TRef.of (T := ⟨S36864x1024, .f32⟩) main_v34) subf ]

/-- The operations of the called argmax, from the logits to the nearest code's number (`main_v35`). -/
abbrev opsArgmax : List (HloOp τ sig (Elt F)) :=
  [ TRef.nullary (TRef.of (T := ⟨S36864x1024, .i32⟩) main_call1_v0) (iotaInDim S36864x1024 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S36864x1024, .f32⟩) main_v22) (TRef.of (T := ⟨S36864x1024, .i32⟩) main_call1_v0) (TRef.of (T := ⟨S_, .f32⟩) main_call1_cst) (TRef.of (T := ⟨S_, .i32⟩) main_call1_c) (TRef.of (T := ⟨S36864, .f32⟩) main_call1_v1_0) (fun x y u v j => (Host.argReduce reducer_argmax_f32_i32 x y u v reducesTo_S36864x1024_S36864_d1 h_S_ j).1),
    TRef.quaternary (TRef.of (T := ⟨S36864x1024, .f32⟩) main_v22) (TRef.of (T := ⟨S36864x1024, .i32⟩) main_call1_v0) (TRef.of (T := ⟨S_, .f32⟩) main_call1_cst) (TRef.of (T := ⟨S_, .i32⟩) main_call1_c) (TRef.of (T := ⟨S36864, .i32⟩) main_v35) (fun x y u v j => (Host.argReduce reducer_argmax_f32_i32 x y u v reducesTo_S36864x1024_S36864_d1 h_S_ j).2) ]

/-- The operations that write a one at each row's nearest code (`main_v52`). -/
abbrev opsOneHot : List (HloOp τ sig (Elt F)) :=
  [ nullary main_cst_8 (constant S_ .f32 0x00000000#32),
    unary main_cst_8 main_v36 (broadcastInDim S36864x1024 ![] bcast_S_S36864x1024 : (⟨S_, .f32⟩ : BufTy).Contents (Elt F) → (⟨S36864x1024, .f32⟩ : BufTy).Contents (Elt F)),
    nullary main_v37 (iotaInDim S36864 32 0),
    nullary main_c (constantI S_ 32 0#32),
    unary main_c main_v38 (broadcastInDim S36864 ![] bcast_S_S36864 : (⟨S_, .i32⟩ : BufTy).Contents (Elt F) → (⟨S36864, .i32⟩ : BufTy).Contents (Elt F)),
    binary main_v37 main_v38 main_v39 (cmpi .slt : (⟨S36864, .i32⟩ : BufTy).Contents (Elt F) → (⟨S36864, .i32⟩ : BufTy).Contents (Elt F) → (⟨S36864, .i1⟩ : BufTy).Contents (Elt F)),
    nullary main_c_9 (constantI S_ 32 36864#32),
    unary main_c_9 main_v40 (broadcastInDim S36864 ![] bcast_S_S36864 : (⟨S_, .i32⟩ : BufTy).Contents (Elt F) → (⟨S36864, .i32⟩ : BufTy).Contents (Elt F)),
    binary main_v37 main_v40 main_v41 (addi : (⟨S36864, .i32⟩ : BufTy).Contents (Elt F) → (⟨S36864, .i32⟩ : BufTy).Contents (Elt F) → (⟨S36864, .i32⟩ : BufTy).Contents (Elt F)),
    ternary main_v39 main_v41 main_v37 main_v42 (select : (⟨S36864, .i1⟩ : BufTy).Contents (Elt F) → (⟨S36864, .i32⟩ : BufTy).Contents (Elt F) → (⟨S36864, .i32⟩ : BufTy).Contents (Elt F) → (⟨S36864, .i32⟩ : BufTy).Contents (Elt F)),
    nullary main_c_10 (constantI S_ 32 0#32),
    unary main_c_10 main_v43 (broadcastInDim S36864 ![] bcast_S_S36864 : (⟨S_, .i32⟩ : BufTy).Contents (Elt F) → (⟨S36864, .i32⟩ : BufTy).Contents (Elt F)),
    binary main_v35 main_v43 main_v44 (cmpi .slt : (⟨S36864, .i32⟩ : BufTy).Contents (Elt F) → (⟨S36864, .i32⟩ : BufTy).Contents (Elt F) → (⟨S36864, .i1⟩ : BufTy).Contents (Elt F)),
    nullary main_c_11 (constantI S_ 32 1024#32),
    unary main_c_11 main_v45 (broadcastInDim S36864 ![] bcast_S_S36864 : (⟨S_, .i32⟩ : BufTy).Contents (Elt F) → (⟨S36864, .i32⟩ : BufTy).Contents (Elt F)),
    binary main_v35 main_v45 main_v46 (addi : (⟨S36864, .i32⟩ : BufTy).Contents (Elt F) → (⟨S36864, .i32⟩ : BufTy).Contents (Elt F) → (⟨S36864, .i32⟩ : BufTy).Contents (Elt F)),
    ternary main_v44 main_v46 main_v35 main_v47 (select : (⟨S36864, .i1⟩ : BufTy).Contents (Elt F) → (⟨S36864, .i32⟩ : BufTy).Contents (Elt F) → (⟨S36864, .i32⟩ : BufTy).Contents (Elt F) → (⟨S36864, .i32⟩ : BufTy).Contents (Elt F)),
    unary main_v42 main_v48 (broadcastInDim S36864x1 ![0] bcast_S36864_S36864x1_0 : (⟨S36864, .i32⟩ : BufTy).Contents (Elt F) → (⟨S36864x1, .i32⟩ : BufTy).Contents (Elt F)),
    unary main_v47 main_v49 (broadcastInDim S36864x1 ![0] bcast_S36864_S36864x1_0 : (⟨S36864, .i32⟩ : BufTy).Contents (Elt F) → (⟨S36864x1, .i32⟩ : BufTy).Contents (Elt F)),
    binary main_v48 main_v49 main_v50 pairUp,
    nullary main_cst_12 (constant S_ .f32 0x3F800000#32),
    unary main_cst_12 main_v51 (broadcastInDim S36864 ![] bcast_S_S36864 : (⟨S_, .f32⟩ : BufTy).Contents (Elt F) → (⟨S36864, .f32⟩ : BufTy).Contents (Elt F)),
    ternary main_v36 main_v50 main_v51 main_v52 ((fun x i u => Host.scatter scatter_S36864x1024_S36864x2_S36864_n_01_01_1 (fun _ b => b) x i u) : (⟨S36864x1024, .f32⟩ : BufTy).Contents (Elt F) → (⟨S36864x2, .i32⟩ : BufTy).Contents (Elt F) → (⟨S36864, .f32⟩ : BufTy).Contents (Elt F) → (⟨S36864x1024, .f32⟩ : BufTy).Contents (Elt F)) ]

/-- The operations that pick the nearest codes and give the results their shapes (`main_v55`, `main_v56`, `main_v57`). -/
abbrev opsOutput : List (HloOp τ sig (Elt F)) :=
  [ binary main_v52 main_arg1 main_v53 ((fun l r => Host.dotGeneral dot_S36864x1024_S1024x256_S36864x256_1_0_0_1_n_n none l r) : (⟨S36864x1024, .f32⟩ : BufTy).Contents (Elt F) → (⟨S1024x256, .f32⟩ : BufTy).Contents (Elt F) → (⟨S36864x256, .f32⟩ : BufTy).Contents (Elt F)),
    reshape main_v53 main_v54 (rfl : (.f32 : EltTy) = .f32) shapeCasts_S36864x256_S64x256x576,
    unary main_v54 main_v55 ((transpose S64x576x256 [0, 2, 1] · transposes_S64x256x576_S64x576x256_0_2_1) : (⟨S64x256x576, .f32⟩ : BufTy).Contents (Elt F) → (⟨S64x576x256, .f32⟩ : BufTy).Contents (Elt F)),
    reshape main_v33 main_v56 (rfl : (.f32 : EltTy) = .f32) shapeCasts_S36864x1024_S64x576x1024,
    reshape main_v34 main_v57 (rfl : (.f32 : EltTy) = .f32) shapeCasts_S36864x1024_S64x576x1024 ]

/-- The operations of the whole program. -/
abbrev ops : List (HloOp τ sig (Elt F)) :=
  opsLogits ++ (opsSoftmax ++ (opsLogSoftmax ++ (opsArgmax ++ (opsOneHot ++ opsOutput))))

set_option maxRecDepth 8192 in
set_option maxHeartbeats 4000000 in
/-- The program is its operations, one after the other. -/
theorem main_eq (c : Dev nD) : main (F := F) c = seq ops := rfl

/-- No buffer belongs to a scope. -/
theorem scopedRefs_eq : (Finset.univ.filter fun b : Ref sig .tc => b.isScoped) = ∅ := by decide

/-- No semaphore belongs to a scope. -/
theorem scopedSems_eq : (Finset.univ.filter fun sm : SemLoc sig => sm.isScoped .tc) = ∅ := by decide

set_option maxRecDepth 8192 in
/-- `opsLogits` touches the device's own buffers only. -/
theorem opsLogits_sub : (opsLogits : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- `opsSoftmax` touches the device's own buffers only. -/
theorem opsSoftmax_sub : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- `opsLogSoftmax` touches the device's own buffers only. -/
theorem opsLogSoftmax_sub : (opsLogSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- `opsArgmax` touches the device's own buffers only. -/
theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- `opsOneHot` touches the device's own buffers only. -/
theorem opsOneHot_sub : (opsOneHot : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

set_option maxRecDepth 8192 in
/-- `opsOutput` touches the device's own buffers only. -/
theorem opsOutput_sub : (opsOutput : List (HloOp τ sig (Elt F))).Forall fun op => op.bufs ⊆ tcRefs τ sig :=
  ⟨binary_bufs_sub .., reshape_bufs_sub .., unary_bufs_sub .., reshape_bufs_sub .., reshape_bufs_sub ..⟩

/-- The program touches the device's own buffers only. -/
theorem ops_sub : (ops : List (HloOp τ sig (Elt F))).Forall fun op => op.bufs ⊆ tcRefs τ sig := by
  simp only [ops, List.forall_append]
  exact ⟨opsLogits_sub, opsSoftmax_sub, opsLogSoftmax_sub, opsArgmax_sub, opsOneHot_sub, opsOutput_sub⟩

end Cert.RefStages

end
-- ==== Proof.RefRun.lean ====
/- The run of the reference program: what each list of operations leaves in the buffers the later ones read, and the
   results of the whole. -/
module

public import proofs.«01_k».proof.Proof.RefStages

@[expose] public section

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192
set_option maxHeartbeats 4000000

/-! ## The logits -/

/-- The first operations leave the precision in `main_v3`. -/
theorem after_logits_v3 :
    after opsLogits V (Proc.devRef .tc main_v3) = precision (V (Proc.devRef .tc main_arg2)) := by
  after_results_simp <;> rfl

/-- The first operations leave the logits in `main_v22`. -/
theorem after_logits_v22 :
    after opsLogits V (Proc.devRef .tc main_v22)
      = logits (points (V (Proc.devRef .tc main_arg0))) (V (Proc.devRef .tc main_arg1))
          (precision (V (Proc.devRef .tc main_arg2))) := by
  after_results_simp <;> rfl

/-- The first operations leave the arguments as they were. -/
theorem after_logits_args :
    after opsLogits V (Proc.devRef .tc main_arg0) = V (Proc.devRef .tc main_arg0)
    ∧ after opsLogits V (Proc.devRef .tc main_arg1) = V (Proc.devRef .tc main_arg1)
    ∧ after opsLogits V (Proc.devRef .tc main_arg2) = V (Proc.devRef .tc main_arg2)
    ∧ after opsLogits V (Proc.devRef .tc main_arg3) = V (Proc.devRef .tc main_arg3) := by
  refine ⟨?_, ?_, ?_, ?_⟩ <;> after_results_simp

/-! ## The softmax -/

/-- The softmax's operations leave the probabilities in `main_v33`. -/
theorem after_softmax_v33 :
    after opsSoftmax V (Proc.devRef .tc main_v33) = softmax (V (Proc.devRef .tc main_v22)) := by
  after_results_simp <;> rfl

/-- The softmax's operations leave the precision, the logits and the arguments as they were. -/
theorem after_softmax_keeps :
    after opsSoftmax V (Proc.devRef .tc main_v3) = V (Proc.devRef .tc main_v3)
    ∧ after opsSoftmax V (Proc.devRef .tc main_v22) = V (Proc.devRef .tc main_v22)
    ∧ after opsSoftmax V (Proc.devRef .tc main_arg0) = V (Proc.devRef .tc main_arg0)
    ∧ after opsSoftmax V (Proc.devRef .tc main_arg1) = V (Proc.devRef .tc main_arg1)
    ∧ after opsSoftmax V (Proc.devRef .tc main_arg2) = V (Proc.devRef .tc main_arg2)
    ∧ after opsSoftmax V (Proc.devRef .tc main_arg3) = V (Proc.devRef .tc main_arg3) := by
  refine ⟨?_, ?_, ?_, ?_, ?_, ?_⟩ <;> after_results_simp

/-! ## The log-softmax -/

/-- The log-softmax's operations leave its value in `main_v34`. -/
theorem after_logSoftmax_v34 :
    after opsLogSoftmax V (Proc.devRef .tc main_v34) = logSoftmax (V (Proc.devRef .tc main_v22)) := by
  simp only [opsLogSoftmax, TRef.binary, TRef.nullary, TRef.unary, TRef.toBuf, TRef.ofBuf, cast_eq]
  after_results_simp <;> rfl

/-- The log-softmax's operations leave the precision, the logits, the probabilities and the arguments as they were. -/
theorem after_logSoftmax_keeps :
    after opsLogSoftmax V (Proc.devRef .tc main_v3) = V (Proc.devRef .tc main_v3)
    ∧ after opsLogSoftmax V (Proc.devRef .tc main_v22) = V (Proc.devRef .tc main_v22)
    ∧ after opsLogSoftmax V (Proc.devRef .tc main_v33) = V (Proc.devRef .tc main_v33)
    ∧ after opsLogSoftmax V (Proc.devRef .tc main_arg0) = V (Proc.devRef .tc main_arg0)
    ∧ after opsLogSoftmax V (Proc.devRef .tc main_arg1) = V (Proc.devRef .tc main_arg1)
    ∧ after opsLogSoftmax V (Proc.devRef .tc main_arg2) = V (Proc.devRef .tc main_arg2)
    ∧ after opsLogSoftmax V (Proc.devRef .tc main_arg3) = V (Proc.devRef .tc main_arg3) := by
  simp only [opsLogSoftmax, TRef.binary, TRef.nullary, TRef.unary, TRef.toBuf, TRef.ofBuf, cast_eq]
  refine ⟨?_, ?_, ?_, ?_, ?_, ?_, ?_⟩ <;> after_results_simp

/-! ## The argmax -/

/-- The argmax's operations leave the nearest codes' numbers in `main_v35`. -/
theorem after_argmax_v35 :
    after opsArgmax V (Proc.devRef .tc main_v35) = nearest (V (Proc.devRef .tc main_v22)) := by
  simp only [opsArgmax, TRef.quaternary, TRef.nullary, TRef.toBuf, TRef.ofBuf, cast_eq]
  after_results_simp <;> rfl

/-- The argmax's operations leave the values computed before them and the arguments as they were. -/
theorem after_argmax_keeps :
    after opsArgmax V (Proc.devRef .tc main_v3) = V (Proc.devRef .tc main_v3)
    ∧ after opsArgmax V (Proc.devRef .tc main_v33) = V (Proc.devRef .tc main_v33)
    ∧ after opsArgmax V (Proc.devRef .tc main_v34) = V (Proc.devRef .tc main_v34)
    ∧ after opsArgmax V (Proc.devRef .tc main_arg0) = V (Proc.devRef .tc main_arg0)
    ∧ after opsArgmax V (Proc.devRef .tc main_arg1) = V (Proc.devRef .tc main_arg1)
    ∧ after opsArgmax V (Proc.devRef .tc main_arg2) = V (Proc.devRef .tc main_arg2)
    ∧ after opsArgmax V (Proc.devRef .tc main_arg3) = V (Proc.devRef .tc main_arg3) := by
  simp only [opsArgmax, TRef.quaternary, TRef.nullary, TRef.toBuf, TRef.ofBuf, cast_eq]
  refine ⟨?_, ?_, ?_, ?_, ?_, ?_, ?_⟩ <;> after_results_simp

/-! ## The one-hot table -/

/-- The scatter's operations leave the one-hot table in `main_v52`. -/
theorem after_oneHot_v52 :
    after opsOneHot V (Proc.devRef .tc main_v52) = oneHot (V (Proc.devRef .tc main_v35)) := by
  after_results_simp <;> rfl

/-- The scatter's operations leave the values computed before them and the arguments as they were. -/
theorem after_oneHot_keeps :
    after opsOneHot V (Proc.devRef .tc main_v3) = V (Proc.devRef .tc main_v3)
    ∧ after opsOneHot V (Proc.devRef .tc main_v33) = V (Proc.devRef .tc main_v33)
    ∧ after opsOneHot V (Proc.devRef .tc main_v34) = V (Proc.devRef .tc main_v34)
    ∧ after opsOneHot V (Proc.devRef .tc main_arg0) = V (Proc.devRef .tc main_arg0)
    ∧ after opsOneHot V (Proc.devRef .tc main_arg1) = V (Proc.devRef .tc main_arg1)
    ∧ after opsOneHot V (Proc.devRef .tc main_arg2) = V (Proc.devRef .tc main_arg2)
    ∧ after opsOneHot V (Proc.devRef .tc main_arg3) = V (Proc.devRef .tc main_arg3) := by
  refine ⟨?_, ?_, ?_, ?_, ?_, ?_, ?_⟩ <;> after_results_simp

/-! ## The results -/

/-- The last operations give the results their shapes. -/
theorem after_output_results :
    after opsOutput V (Proc.devRef .tc main_v55)
      = quantized (V (Proc.devRef .tc main_v52)) (V (Proc.devRef .tc main_arg1))
    ∧ after opsOutput V (Proc.devRef .tc main_v56) = byItem (V (Proc.devRef .tc main_v33))
    ∧ after opsOutput V (Proc.devRef .tc main_v57) = byItem (V (Proc.devRef .tc main_v34)) := by
  refine ⟨?_, ?_, ?_⟩ <;> after_results_simp <;> rfl

/-- The last operations leave the precision and the arguments as they were. -/
theorem after_output_keeps :
    after opsOutput V (Proc.devRef .tc main_v3) = V (Proc.devRef .tc main_v3)
    ∧ after opsOutput V (Proc.devRef .tc main_arg0) = V (Proc.devRef .tc main_arg0)
    ∧ after opsOutput V (Proc.devRef .tc main_arg1) = V (Proc.devRef .tc main_arg1)
    ∧ after opsOutput V (Proc.devRef .tc main_arg2) = V (Proc.devRef .tc main_arg2)
    ∧ after opsOutput V (Proc.devRef .tc main_arg3) = V (Proc.devRef .tc main_arg3) := by
  refine ⟨?_, ?_, ?_, ?_, ?_⟩ <;> after_results_simp

/-! ## The whole program -/

/-- What the whole program leaves in the buffers of its results and of its arguments. -/
theorem after_ops :
    let l := logits (points (V (Proc.devRef .tc main_arg0))) (V (Proc.devRef .tc main_arg1))
      (precision (V (Proc.devRef .tc main_arg2)))
    after ops V (Proc.devRef .tc main_v55) = quantized (oneHot (nearest l)) (V (Proc.devRef .tc main_arg1))
    ∧ after ops V (Proc.devRef .tc main_v3) = precision (V (Proc.devRef .tc main_arg2))
    ∧ after ops V (Proc.devRef .tc main_v56) = byItem (softmax l)
    ∧ after ops V (Proc.devRef .tc main_v57) = byItem (logSoftmax l)
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  intro l
  simp only [ops, StableHlo.after_append]
  generalize h1 : after opsLogits V = V1
  generalize h2 : after opsSoftmax V1 = V2
  generalize h3 : after opsLogSoftmax V2 = V3
  generalize h4 : after opsArgmax V3 = V4
  generalize h5 : after opsOneHot V4 = V5
  obtain ⟨a0, a1, a2, a3⟩ := h1 ▸ after_logits_args V
  obtain ⟨b3, b22, b0, b1, b2, b33⟩ := h2 ▸ after_softmax_keeps V1
  obtain ⟨c3, c22, c33, c0, c1, c2, c4⟩ := h3 ▸ after_logSoftmax_keeps V2
  obtain ⟨d3, d33, d34, d0, d1, d2, d4⟩ := h4 ▸ after_argmax_keeps V3
  obtain ⟨e3, e33, e34, e0, e1, e2, e4⟩ := h5 ▸ after_oneHot_keeps V4
  obtain ⟨f55, f56, f57⟩ := after_output_results V5
  obtain ⟨f3, f0, f1, f2, f4⟩ := after_output_keeps V5
  have hq : V1 (Proc.devRef .tc main_v3) = precision (V (Proc.devRef .tc main_arg2)) := h1 ▸ after_logits_v3 V
  have hl : V1 (Proc.devRef .tc main_v22) = l := h1 ▸ after_logits_v22 V
  have hp : V2 (Proc.devRef .tc main_v33) = softmax (V1 (Proc.devRef .tc main_v22)) := h2 ▸ after_softmax_v33 V1
  have hg : V3 (Proc.devRef .tc main_v34) = logSoftmax (V2 (Proc.devRef .tc main_v22)) := h3 ▸ after_logSoftmax_v34 V2
  have hn : V4 (Proc.devRef .tc main_v35) = nearest (V3 (Proc.devRef .tc main_v22)) := h4 ▸ after_argmax_v35 V3
  have ho : V5 (Proc.devRef .tc main_v52) = oneHot (V4 (Proc.devRef .tc main_v35)) := h5 ▸ after_oneHot_v52 V4
  refine ⟨?_, ?_, ?_, ?_, ?_, ?_, ?_, ?_⟩
  · rw [f55, ho, hn, c22, b22, hl, e1, d1, c1, b1, a1]
  · rw [f3, e3, d3, c3, b3, hq]
  · rw [f56, e33, d33, c33, hp, hl]
  · rw [f57, e34, d34, hg, b22, hl]
  · rw [f0, e0, d0, c0, b0, a0]
  · rw [f1, e1, d1, c1, b1, a1]
  · rw [f2, e2, d2, c2, b2, a2]
  · rw [f4, e4, d4, c4, b33, a3]

/-- The reference run: every execution ends with the results at the mathematics of the arguments, which end as they
    began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = quantized (oneHot (nearest (logits (points (m ((c.tc : Thread nD τ).loc main_arg0)))
            (m ((c.tc : Thread nD τ).loc main_arg1)) (precision (m ((c.tc : Thread nD τ).loc main_arg2))))))
          (m ((c.tc : Thread nD τ).loc main_arg1))
      ∧ r.2.mem ((c.tc : Thread nD τ).loc main_v3) = precision (m ((c.tc : Thread nD τ).loc main_arg2))
      ∧ r.2.mem ((c.tc : Thread nD τ).loc main_v56)
        = byItem (softmax (logits (points (m ((c.tc : Thread nD τ).loc main_arg0)))
            (m ((c.tc : Thread nD τ).loc main_arg1)) (precision (m ((c.tc : Thread nD τ).loc main_arg2)))))
      ∧ r.2.mem ((c.tc : Thread nD τ).loc main_v57)
        = byItem (logSoftmax (logits (points (m ((c.tc : Thread nD τ).loc main_arg0)))
            (m ((c.tc : Thread nD τ).loc main_arg1)) (precision (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => by
      obtain ⟨h55, h3, h56, h57, h0, h1, h2, h4⟩ := after_ops (launchContents m c)
      exact ⟨(h c main_v55).trans h55, (h c main_v3).trans h3, (h c main_v56).trans h56, (h c main_v57).trans h57,
        (h c main_arg0).trans h0, (h c main_arg1).trans h1, (h c main_arg2).trans h2, (h c main_arg3).trans h4⟩)
    (run_seq scopedRefs_eq scopedSems_eq defs main (fun _ => ops) main_eq (fun _ => ops_sub) m ρ
      (by simp only [ops, List.mem_append]
          rintro _ op (h | h | h | h | h | h) <;>
            (repeat (cases h with | head => rfl | tail _ h => ?_)) <;> exact nomatch h))

/-- The reference declares no semaphore. -/
theorem no_sem : IsEmpty (SemLoc sig) :=
  ⟨fun s => by rcases s with s | s <;> exact s.elim0⟩

/-- The reference's frame: its arguments end as they began, and there is no counter to leave off zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2.2.2.2, funext fun g => (no_sem.false g.2).elim⟩) (run m ρ)

end Cert.RefStages

end
-- ==== Proof.Arrays.lean ====
/- The kernel's three result arrays after its region, from the arrays it reads: grid point `b` reads item `b` of the
   points and writes the rows of item `b`. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Arrays

open Idealize.ShloMosaic Idealize.ShloMosaic.TcCoe Cert.KernelIdeal Cert.KernelIdeal.Gen

/-- Item `b` of the points. -/
def item (ze : Vec Ideal S64x576x256 .f32) (b : Fin 64) : Vec Ideal S1x576x256 .f32 :=
  fun y => ze (ix3 b (y 1) (y 2))

variable (p : Vec Ideal S1x1 .f32) (w : Vec Ideal S1024x256 .f32) (z : Vec Ideal S1x576x256 .f32)
variable (ze : Vec Ideal S64x576x256 .f32)

/-- One grid point's probabilities. -/
def probBlock : Vec Ideal S576x1024 .f32 :=
  k0_pay11 (F := Ideal) (p (ix2 0 0)) (k0_pay3 w) (k0_pay5 w z) (k0_pay6 z)

/-- One grid point's log-probabilities. -/
def logProbBlock : Vec Ideal S576x1024 .f32 :=
  k0_pay12 (F := Ideal) (p (ix2 0 0)) (k0_pay3 w) (k0_pay5 w z) (k0_pay6 z)

/-- One grid point's quantized item. -/
def quantBlock : Vec Ideal S1x576x256 .f32 :=
  k0_pay1 (k0_pay13 (F := Ideal) (p (ix2 0 0)) w (k0_pay3 w) (k0_pay5 w z) (k0_pay6 z))
    (k0_pay14 (F := Ideal) (p (ix2 0 0)) w (k0_pay3 w) (k0_pay5 w z) (k0_pay6 z))

/-- The blocks of rows, one per item, as one array. -/
def stacked (f : Vec Ideal S1x576x256 .f32 → Vec Ideal S576x1024 .f32) : Vec Ideal S36864x1024 .f32 := fun i =>
  f (item ze ⟨(i 0).val / 576, by have h : (i 0).val < 36864 := (i 0).isLt; omega⟩)
    (ix2 ⟨(i 0).val % 576, Nat.mod_lt _ (by norm_num)⟩ (i 1))

/-- The quantized items as one array. -/
def quantArray : Vec Ideal S64x576x256 .f32 := fun i => quantBlock p w (item ze (i 0)) (ix3 0 (i 1) (i 2))

/-! ## What a grid point leaves in a staging buffer -/

/-- The scalar the body reads out of its one-element block. -/
theorem scalar_eq : k0_pay2 p = p (ix2 0 0) := by
  unfold k0_pay2
  exact congrArg p (funext fun a => by fin_cases a <;> rfl)

/-- A grid point leaves its probabilities in the staging buffer of window 3. -/
theorem out3_eq : out0_3 p z w = probBlock p w z := by
  unfold_out out0_3
  frame_out
  rw [scalar_eq]
  rfl

/-- A grid point leaves its log-probabilities in the staging buffer of window 4. -/
theorem out4_eq : out0_4 p z w = logProbBlock p w z := by
  unfold_out out0_4
  frame_out
  rw [scalar_eq]
  rfl

/-- A grid point leaves its quantized item in the staging buffer of window 5. -/
theorem out5_eq : out0_5 p z w = quantBlock p w z := by
  unfold_out out0_5
  frame_out
  rw [scalar_eq]
  rfl

/-! ## The blocks a grid point reads and writes -/

/-- The scalar's block is always the same. -/
theorem index0 : ∀ t : Fin cfg0.N, win0_0.index t = ![0, 0] := (by decide +kernel : ∀ t : Fin grid0.N, _)
/-- Grid point `t` reads item `t`. -/
theorem index1 : ∀ t : Fin cfg0.N, win0_1.index t = ![t.val, 0, 0] := (by decide +kernel : ∀ t : Fin grid0.N, _)
/-- The codebook's block is always the same. -/
theorem index2 : ∀ t : Fin cfg0.N, win0_2.index t = ![0, 0] := (by decide +kernel : ∀ t : Fin grid0.N, _)
/-- Grid point `t` writes the probabilities' rows of item `t`. -/
theorem index3 : ∀ t : Fin cfg0.N, win0_3.index t = ![t.val, 0] := (by decide +kernel : ∀ t : Fin grid0.N, _)
/-- Grid point `t` writes the log-probabilities' rows of item `t`. -/
theorem index4 : ∀ t : Fin cfg0.N, win0_4.index t = ![t.val, 0] := (by decide +kernel : ∀ t : Fin grid0.N, _)
/-- Grid point `t` writes item `t` of the quantized points. -/
theorem index5 : ∀ t : Fin cfg0.N, win0_5.index t = ![t.val, 0, 0] := (by decide +kernel : ∀ t : Fin grid0.N, _)

variable (m : (ℓ : Loc nD τ sig) → Buf (Elt Ideal) ℓ) (c : Dev nD)

/-- Every grid point reads the one-element matrix of the precision. -/
theorem block0 (t : Fin cfg0.N) : iblk m c 0 t = V m c main_v4 := by
  funext y
  blk_simp [iblk]
  exact congrArg (V m c main_v4) (by blk_ext [index0])

/-- Grid point `t` reads item `t` of the points. -/
theorem block1 (t : Fin cfg0.N) : iblk m c 1 t = item (V m c main_arg0) ⟨t.val, t.isLt⟩ := by
  funext y
  blk_simp [iblk]
  unfold item
  refine congrArg (V m c main_arg0) ?_
  blk_ext [index1]

/-- Every grid point reads the whole codebook. -/
theorem block2 (t : Fin cfg0.N) : iblk m c 2 t = V m c main_arg1 := by
  funext y
  blk_simp [iblk]
  exact congrArg (V m c main_arg1) (by blk_ext [index2])

/-! ## The arrays -/

/-- Row `576 t + r` of the stacked blocks is row `r` of item `t`'s block. -/
theorem stacked_at (f : Vec Ideal S1x576x256 .f32 → Vec Ideal S576x1024 .f32) (t : Fin 64) (y : S576x1024.Idx)
    (i : S36864x1024.Idx) (h0 : (i 0).val = t.val * 576 + (y 0).val) (h1 : (i 1).val = (y 1).val) :
    f (item ze t) y = stacked ze f i := by
  have hy : (y 0).val < 576 := (y 0).isLt
  have eb : (⟨(i 0).val / 576, by have h : (i 0).val < 36864 := (i 0).isLt; omega⟩ : Fin 64) = t :=
    Fin.ext (by show (i 0).val / 576 = t.val; omega)
  have ey : (ix2 ⟨(i 0).val % 576, Nat.mod_lt _ (by norm_num)⟩ (i 1) : S576x1024.Idx) = y := by
    funext a
    refine Fin.ext ?_
    match a with
    | ⟨0, _⟩ => show (i 0).val % 576 = (y 0).val; omega
    | ⟨1, _⟩ => exact h1
  unfold stacked
  rw [eb, ey]

/-- Element `i` of the quantized array is an element of item `t`'s block. -/
theorem quantArray_at (t : Fin 64) (y : S1x576x256.Idx) (i : S64x576x256.Idx) (h0 : (i 0).val = t.val)
    (h1 : (i 1).val = (y 1).val) (h2 : (i 2).val = (y 2).val) :
    quantBlock p w (item ze t) y = quantArray p w ze i := by
  have eb : i 0 = t := Fin.ext h0
  have ey : (ix3 0 (i 1) (i 2) : S1x576x256.Idx) = y := by
    funext a
    refine Fin.ext ?_
    match a with
    | ⟨0, _⟩ => exact ((Nat.lt_one_iff).mp (y 0).isLt).symm
    | ⟨1, _⟩ => exact h1
    | ⟨2, _⟩ => exact h2
  unfold quantArray
  rw [eb, ey]

/-- The probabilities' array. -/
theorem array3 : (dats m 0 c).arrAt 3 cfg0.N
    = stacked (V m c main_arg0) (probBlock (V m c main_v4) (V m c main_arg1)) := by
  refine (dats m 0 c).arrAt_eq_of_covers 3 _ (by decide +kernel) fun t hf y => ?_
  blk_simp
  rw [after0_3, out3_eq, block0, block1, block2]
  refine stacked_at _ (probBlock (V m c main_v4) (V m c main_arg1)) ⟨t.val, t.isLt⟩ y _ ?_ ?_
  · blk_simp [index3]
  · blk_simp [index3]

/-- The log-probabilities' array. -/
theorem array4 : (dats m 0 c).arrAt 4 cfg0.N
    = stacked (V m c main_arg0) (logProbBlock (V m c main_v4) (V m c main_arg1)) := by
  refine (dats m 0 c).arrAt_eq_of_covers 4 _ (by decide +kernel) fun t hf y => ?_
  blk_simp
  rw [after0_4, out4_eq, block0, block1, block2]
  refine stacked_at _ (logProbBlock (V m c main_v4) (V m c main_arg1)) ⟨t.val, t.isLt⟩ y _ ?_ ?_
  · blk_simp [index4]
  · blk_simp [index4]

/-- The quantized points' array. -/
theorem array5 : (dats m 0 c).arrAt 5 cfg0.N
    = quantArray (V m c main_v4) (V m c main_arg1) (V m c main_arg0) := by
  refine (dats m 0 c).arrAt_eq_of_covers 5 _ (by decide +kernel) fun t hf y => ?_
  blk_simp
  rw [after0_5, out5_eq, block0, block1, block2]
  refine quantArray_at _ _ _ ⟨t.val, t.isLt⟩ y _ ?_ ?_ ?_
  · have h : (y 0).val < 1 := (y 0).isLt
    blk_simp [index5]
  · blk_simp [index5]
  · blk_simp [index5]

end Cert.Arrays

end
-- ==== Proof.KerRun.lean ====
/- The run of the kernel's program: the lines before its region compute the precision, the region leaves the three
   arrays, and the lines after it cut two of them into items. -/
module

public import proofs.«01_k».proof.Proof.Arrays
public import proofs.«01_k».proof.Proof.RefStages

@[expose] public section

set_option maxRecDepth 16384
set_option maxHeartbeats 1000000

noncomputable section

namespace Cert.KerRun

open Idealize.ShloMosaic Idealize.ShloMosaic.TcCoe Idealize.ShloMosaic.StableHlo Idealize.SL.Sem
open Cert.KernelIdeal Cert.KernelIdeal.Gen Cert.Arrays

/-- A scalar as a one-element matrix. -/
def asBlock (x : FVec Ideal S_ .f32) : FVec Ideal S1x1 .f32 := shapeCast S1x1 x shapeCasts_S_S1x1

/-! ## The lines before the region -/

/-- They leave the precision in `main_v3`. -/
theorem before_v3 (V : Valuation τ sig (Elt Ideal)) :
    after hostOps0 V (Proc.devRef .tc main_v3) = RefStages.precision (F := Ideal) (V (Proc.devRef .tc main_arg2)) := by
  after_results_simp <;> rfl

/-- They leave the precision, as a one-element matrix, in `main_v4`. -/
theorem before_v4 (V : Valuation τ sig (Elt Ideal)) :
    after hostOps0 V (Proc.devRef .tc main_v4)
      = asBlock (RefStages.precision (F := Ideal) (V (Proc.devRef .tc main_arg2))) := by
  after_results_simp <;> rfl

/-! ## The lines after the region -/

/-- They leave the first array, cut into items, in `main_v6`. -/
theorem after_v6 (V : Valuation τ sig (Elt Ideal)) :
    after hostOps1 V (Proc.devRef .tc main_v6) = RefStages.byItem (F := Ideal) (V (Proc.devRef .tc main_v5_0)) := by
  after_results_simp <;> rfl

/-- They leave the second array, cut into items, in `main_v7`. -/
theorem after_v7 (V : Valuation τ sig (Elt Ideal)) :
    after hostOps1 V (Proc.devRef .tc main_v7) = RefStages.byItem (F := Ideal) (V (Proc.devRef .tc main_v5_1)) := by
  after_results_simp <;> rfl

/-- They leave the precision as it was. -/
theorem after_v3 (V : Valuation τ sig (Elt Ideal)) :
    after hostOps1 V (Proc.devRef .tc main_v3) = V (Proc.devRef .tc main_v3) := by
  after_results_simp

/-! ## The buffers at the end of the run -/

variable (m : (ℓ : Loc nD τ sig) → Buf (Elt Ideal) ℓ) (ρ : Dev nD → PrngReg)

/-- The precision the program computes from its parameter. -/
def q (c : Dev nD) : FVec Ideal S_ .f32 := RefStages.precision (F := Ideal) (m ((c.tc : Thread nD τ).loc main_arg2))

/-- At the region's entry `main_v3` holds the precision. -/
theorem entry_v3 (c : Dev nD) : V m c main_v3 = q m c := by
  show after (List.flatten [hostOps0]) _ (Proc.devRef .tc main_v3) = _
  rw [List.flatten_cons, List.flatten_nil, List.append_nil, before_v3]
  rfl

/-- At the region's entry `main_v4` holds the precision as a one-element matrix. -/
theorem entry_v4 (c : Dev nD) : V m c main_v4 = asBlock (q m c) := by
  show after (List.flatten [hostOps0]) _ (Proc.devRef .tc main_v4) = _
  rw [List.flatten_cons, List.flatten_nil, List.append_nil, before_v4]
  rfl

/-- The windows' arrays are different buffers. -/
theorem arrays_inj : Function.Injective (Pipeline.arrRef spec0) := by decide +kernel

/-- At the end of the run `main_v6` is the first array, cut into items. -/
theorem end_v6 (c : Dev nD) : Pipeline.afterTail₀ cfgs (dats m) 0 (V0 m) [hostOps1] c main_v6
    = RefStages.byItem (F := Ideal) ((dats m 0 c).arrAt 3 cfg0.N) := by
  unfold Pipeline.afterTail₀
  rw [List.flatten_cons, List.flatten_nil, List.append_nil, after_v6]
  exact congrArg _ (Pipeline.withArrays_arr spec0 arrays_inj c (V0 m c) (fun w => (dats m 0 c).arrAt w cfg0.N) 3)

/-- At the end of the run `main_v7` is the second array, cut into items. -/
theorem end_v7 (c : Dev nD) : Pipeline.afterTail₀ cfgs (dats m) 0 (V0 m) [hostOps1] c main_v7
    = RefStages.byItem (F := Ideal) ((dats m 0 c).arrAt 4 cfg0.N) := by
  unfold Pipeline.afterTail₀
  rw [List.flatten_cons, List.flatten_nil, List.append_nil, after_v7]
  exact congrArg _ (Pipeline.withArrays_arr spec0 arrays_inj c (V0 m c) (fun w => (dats m 0 c).arrAt w cfg0.N) 4)

/-- At the end of the run `main_v3` is the precision. -/
theorem end_v3 (c : Dev nD) : Pipeline.afterTail₀ cfgs (dats m) 0 (V0 m) [hostOps1] c main_v3 = q m c := by
  unfold Pipeline.afterTail₀
  rw [List.flatten_cons, List.flatten_nil, List.append_nil, after_v3,
    Pipeline.withArrays_of_ne _ c (V0 m c) _ main_v3 (by exact (by decide : ∀ w, Pipeline.arrRef spec0 w ≠ main_v3))]
  exact entry_v3 m c

/-- Every run of the kernel's program ends with the quantized points in `main_v5_2`, the precision in `main_v3`, the
    probabilities in `main_v6`, their logarithms in `main_v7`, and the arguments as they were. -/
theorem run : θ_run defs (onTc (τ := τ) (main (F := Ideal))) ⟨m, fun _ => 0, ρ⟩ fun r => ∀ c : Dev nD,
      r.2.mem ((c.tc : Thread nD τ).loc main_v5_2)
        = quantArray (asBlock (q m c)) (m ((c.tc : Thread nD τ).loc main_arg1)) (m ((c.tc : Thread nD τ).loc main_arg0))
      ∧ r.2.mem ((c.tc : Thread nD τ).loc main_v3) = q m c
      ∧ r.2.mem ((c.tc : Thread nD τ).loc main_v6)
        = RefStages.byItem (F := Ideal) (stacked (m ((c.tc : Thread nD τ).loc main_arg0))
            (probBlock (asBlock (q m c)) (m ((c.tc : Thread nD τ).loc main_arg1))))
      ∧ r.2.mem ((c.tc : Thread nD τ).loc main_v7)
        = RefStages.byItem (F := Ideal) (stacked (m ((c.tc : Thread nD τ).loc main_arg0))
            (logProbBlock (asBlock (q m c)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  have h5 := ((h.1 c).1 5).trans (array5 m c)
  have h3 := ((h.1 c).2 main_v3 (Pipeline.mem_restRefs_of main_v3 (by decide) (by decide))).trans (end_v3 m c)
  have h6 := ((h.1 c).2 main_v6 (Pipeline.mem_restRefs_of main_v6 (by decide) (by decide))).trans
    ((end_v6 m c).trans (congrArg _ (array3 m c)))
  have h7 := ((h.1 c).2 main_v7 (Pipeline.mem_restRefs_of main_v7 (by decide) (by decide))).trans
    ((end_v7 m c).trans (congrArg _ (array4 m c)))
  rw [entry_v4, V_main_arg0, V_main_arg1] at h5 h6 h7
  exact ⟨h5, h3, h6, h7, h.2 c⟩

end Cert.KerRun

end
-- ==== Proof.Argmax.lean ====
/- The reference's argmax at a row: the number of the first code whose logit no other code's exceeds. -/
module

public import proofs.«01_k».proof.Proof.RefStages
public import Idealize.ShloMosaic.Lib.Pointwise
public import Idealize.ShloMosaic.PureOps.Ideal.Laws

@[expose] public section

namespace Cert.Argmax

open Idealize.ShloMosaic Cert.ReferenceIdeal Cert.ReferenceIdeal.Gen

/-- `k` is the first place where the row `l` is greatest. -/
def IsFirstMax {n : Nat} (l : Fin n → EReal) (k : Fin n) : Prop :=
  (∀ j, l j ≤ l k) ∧ ∀ j, l j = l k → k ≤ j

/-- A pair of a value and a number comes no later than another in the argmax's order: its value is greater, or the
    values are equal and its number is no greater. -/
def Beats (a b : EReal × BitVec 32) : Prop :=
  b.1 < a.1 ∨ (b.1 = a.1 ∧ a.2.toInt ≤ b.2.toInt)

/-- Every pair beats itself. -/
theorem beats_refl (a : EReal × BitVec 32) : Beats a a := .inr ⟨rfl, le_rfl⟩

/-- What beats a pair that beats a third beats the third. -/
theorem beats_trans {a b c : EReal × BitVec 32} (h : Beats a b) (h' : Beats b c) : Beats a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A set bit or any other is set. -/
theorem one_or : ∀ b : BitVec 1, 1#1 ||| b = 1#1 := by decide

/-- One step of the argmax keeps one of its two pairs, and that one beats both. -/
theorem reducer_beats (a b : EReal × BitVec 32) :
    (reducer_argmax_f32_i32 (F := Ideal) a b = a ∨ reducer_argmax_f32_i32 (F := Ideal) a b = b)
    ∧ Beats (reducer_argmax_f32_i32 (F := Ideal) a b) a ∧ Beats (reducer_argmax_f32_i32 (F := Ideal) a b) b := by
  obtain ⟨x, i⟩ := a
  obtain ⟨y, j⟩ := b
  rcases lt_trichotomy y x with h | h | h
  · have e : reducer_argmax_f32_i32 (F := Ideal) (x, i) (y, j) = (x, i) := by
      simp [reducer_argmax_f32_i32, Ideal.cmpf_def, Ideal.cmp, IntOp.ori, Scalar.select, h, one_or]
    rw [e]
    exact ⟨.inl rfl, beats_refl _, .inl h⟩
  · subst h
    by_cases hs : i.slt j
    · have e : reducer_argmax_f32_i32 (F := Ideal) (y, i) (y, j) = (y, i) := by
        simp [reducer_argmax_f32_i32, Ideal.cmpf_def, Ideal.cmp, IntOp.ori, IntOp.andi, IntOp.cmpi, Scalar.select, hs]
      rw [e]
      refine ⟨.inl rfl, beats_refl _, .inr ⟨rfl, ?_⟩⟩
      simp only [BitVec.slt, decide_eq_true_eq] at hs
      exact hs.le
    · have e : reducer_argmax_f32_i32 (F := Ideal) (y, i) (y, j) = (y, j) := by
        simp [reducer_argmax_f32_i32, Ideal.cmpf_def, Ideal.cmp, IntOp.ori, IntOp.andi, IntOp.cmpi, Scalar.select, hs]
      rw [e]
      refine ⟨.inr rfl, .inr ⟨rfl, ?_⟩, beats_refl _⟩
      simp only [BitVec.slt, decide_eq_true_eq, not_lt] at hs
      exact hs
  · have e : reducer_argmax_f32_i32 (F := Ideal) (x, i) (y, j) = (y, j) := by
      simp [reducer_argmax_f32_i32, Ideal.cmpf_def, Ideal.cmp, IntOp.ori, IntOp.andi, Scalar.select, h.not_gt, h.ne]
    rw [e]
    exact ⟨.inr rfl, .inl h, beats_refl _⟩

/-- The argmax of a list of pairs is the initial pair or one of the list's, and beats them all. -/
theorem foldl_beats {ι : Type} (g : ι → EReal × BitVec 32) (ks : List ι) (a : EReal × BitVec 32) :
    let r := ks.foldl (fun r n => reducer_argmax_f32_i32 (F := Ideal) r (g n)) a
    (r = a ∨ ∃ n ∈ ks, r = g n) ∧ Beats r a ∧ ∀ n ∈ ks, Beats r (g n) := by
  induction ks generalizing a with
  | nil => exact ⟨.inl rfl, beats_refl _, fun _ h => nomatch h⟩
  | cons k ks ih =>
    obtain ⟨hmem, ha, hks⟩ := ih (reducer_argmax_f32_i32 (F := Ideal) a (g k))
    obtain ⟨hor, h1, h2⟩ := reducer_beats a (g k)
    refine ⟨?_, beats_trans ha h1, ?_⟩
    · rcases hmem with h | ⟨n, hn, h⟩
      · rcases hor with h' | h'
        · exact .inl (h.trans h')
        · exact .inr ⟨k, List.mem_cons_self, h.trans h'⟩
      · exact .inr ⟨n, List.mem_cons_of_mem _ hn, h⟩
    · intro n hn
      rcases List.mem_cons.mp hn with rfl | hn
      · exact beats_trans ha h2
      · exact hks n hn

/-- The word of a number below 1024, read as a signed integer. -/
theorem toInt_code (k : Fin 1024) : (BitVec.ofNat 32 k.val).toInt = k.val := by
  have := k.isLt
  have hn : (BitVec.ofNat 32 k.val).toNat = k.val := by
    rw [BitVec.toNat_ofNat]
    exact Nat.mod_eq_of_lt (by omega)
  rw [BitVec.toInt_eq_toNat_of_lt (by omega), hn]

/-- The argmax over axis 1 of a table of 1024 columns numbered from 0, from the initial pair (`-∞`, 0): the word of the
    first place where the row is greatest. -/
theorem argmax_row {n : Nat} (l : FVec Ideal ⟨2, ![n, 1024]⟩ .f32) (y : IVec ⟨2, ![n, 1024]⟩ 32)
    (hy : ∀ i, y i = BitVec.ofNat 32 (i 1).val) (ix : FVec Ideal S_ .f32) (iy : IVec S_ 32)
    (hix : ∀ i, ix i = (⊥ : EReal)) (hiy : ∀ i, iy i = 0#32)
    (h : (⟨2, ![n, 1024]⟩ : Shape).ReducesTo [1] ⟨1, ![n]⟩) (hu : 0 < S_.numel) (r : Fin n) :
    ∃ k : Fin 1024,
      (Host.argReduce reducer_argmax_f32_i32 l y ix iy h hu (ix1 r)).2 = BitVec.ofNat 32 k.val
      ∧ IsFirstMax (fun j => l (ix2 r j)) k := by
  rw [Ideal.argReduce_eq_reduce2]
  simp only [Host.reduce2, hix, hiy]
  generalize hks : (List.finRange (⟨2, ![n, 1024]⟩ : Shape).numel).filter
    (fun m => decide (h.drop ((⟨2, ![n, 1024]⟩ : Shape).rowMajor.symm m) = ix1 r)) = ks
  have hfib : ∀ m, m ∈ ks ↔ ∃ k : Fin 1024, ix2 r k = (⟨2, ![n, 1024]⟩ : Shape).rowMajor.symm m := by
    intro m
    rw [← hks, List.mem_filter, decide_eq_true_eq, h.fiber_r2_a1]
    simp only [List.mem_finRange, true_and]
    rfl
  have hin : ∀ k : Fin 1024, (⟨2, ![n, 1024]⟩ : Shape).rowMajor (ix2 r k) ∈ ks := fun k =>
    (hfib _).2 ⟨k, (Equiv.symm_apply_apply _ _).symm⟩
  obtain ⟨hmem, ha, hall⟩ := foldl_beats
    (fun m => (l ((⟨2, ![n, 1024]⟩ : Shape).rowMajor.symm m), y ((⟨2, ![n, 1024]⟩ : Shape).rowMajor.symm m))) ks (⊥, 0#32)
  generalize ks.foldl _ _ = R at hmem ha hall ⊢
  have hbeat : ∀ k : Fin 1024, Beats R (l (ix2 r k), BitVec.ofNat 32 k.val) := by
    intro k
    have := hall _ (hin k)
    simp only [Equiv.symm_apply_apply, hy] at this
    exact this
  have hR : ∃ k : Fin 1024, R = (l (ix2 r k), BitVec.ofNat 32 k.val) := by
    rcases hmem with rfl | ⟨m, hm, rfl⟩
    · refine ⟨0, Prod.ext ?_ rfl⟩
      rcases hbeat 0 with h0 | ⟨h0, -⟩
      · exact absurd h0 not_lt_bot
      · exact h0.symm
    · obtain ⟨k, hk⟩ := (hfib m).1 hm
      exact ⟨k, by simp only [← hk, hy]; rfl⟩
  obtain ⟨k, rfl⟩ := hR
  refine ⟨k, rfl, fun j => ?_, fun j hj => ?_⟩
  · rcases hbeat j with hb | ⟨hb, -⟩
    · exact hb.le
    · exact hb.le
  · rcases hbeat j with hb | ⟨-, hb⟩
    · exact absurd hj hb.ne
    · simp only [toInt_code, Nat.cast_le] at hb
      exact hb

/-- The first greatest place of a row is unique. -/
theorem isFirstMax_unique {n : Nat} {l : Fin n → EReal} {j k : Fin n} (hj : IsFirstMax l j) (hk : IsFirstMax l k) :
    j = k :=
  le_antisymm (hj.2 k (le_antisymm (hj.1 k) (hk.1 j))) (hk.2 j (le_antisymm (hk.1 j) (hj.1 k)))

end Cert.Argmax
-- ==== Proof.Rows.lean ====
/- The mathematics of one row, over the extended reals: its logits over the codes, their greatest, the softmax and the
   log-softmax, and the code a table of ones and zeros picks. The kernel's blocks and the reference's tables are both
   read as these. -/
module

public import proofs.«01_k».proof.Proof.Argmax

@[expose] public section

noncomputable section

namespace Cert.Rows

open Idealize.ShloMosaic Cert.Argmax

/-- The logit of the point `x` at the code `w`, at precision `q`. -/
def logit (x w : Fin 256 → EReal) (q : EReal) : EReal :=
  -((∑ d, x d * x d) + (∑ d, w d * w d) - Ideal.ofBits .f32 0x40000000#32 * ∑ d, x d * w d) * q

/-- The greatest of a row. -/
def top (l : Fin 1024 → EReal) : EReal := Finset.univ.fold max (Ideal.ofBits .f32 0xFF800000#32) l

/-- The sum of the exponentials of a row less its greatest. -/
def mass (l : Fin 1024 → EReal) : EReal := ∑ c, Ideal.exp (l c - top l)

/-- The softmax of a row. -/
def soft (l : Fin 1024 → EReal) (c : Fin 1024) : EReal := Ideal.div (Ideal.exp (l c - top l)) (mass l)

/-- The log-softmax of a row. -/
def logSoft (l : Fin 1024 → EReal) (c : Fin 1024) : EReal := l c - top l - Ideal.log (mass l)

/-- Coordinate `d` of the sum of the codes `w`, each times one if it is number `k` and times zero if not. -/
def pick (k : Fin 1024) (w : Fin 1024 → Fin 256 → EReal) (d : Fin 256) : EReal :=
  ∑ c, (if c = k then (1 : EReal) else 0) * w c d

/-! ## The greatest of a row -/

/-- The word the maximum starts from is the least of the extended reals. -/
theorem ofBits_bot : Ideal.ofBits .f32 0xFF800000#32 = (⊥ : EReal) := by
  simp [Ideal.ofBits, Ideal.ieee]

/-- The greatest of a row is the value at its first greatest place. -/
theorem top_eq {l : Fin 1024 → EReal} {k : Fin 1024} (h : IsFirstMax l k) : top l = l k := by
  unfold top
  rw [ofBits_bot]
  exact le_antisymm ((Finset.fold_max_le _).2 ⟨bot_le, fun j _ => h.1 j⟩)
    ((Finset.le_fold_max _).2 (.inr ⟨k, Finset.mem_univ _, le_rfl⟩))

/-- A maximum with the word it started from changes nothing. -/
theorem max_top (l : Fin 1024 → EReal) : max (Ideal.ofBits .f32 0xFF800000#32) (top l) = top l :=
  max_eq_right ((Finset.le_fold_max _).2 (.inl le_rfl))

/-! ## The kernel's search for the first greatest place -/

/-- The signed minimum of two words, read as an integer. -/
theorem toInt_minsi (x y : BitVec 32) : (IntOp.minsi x y).toInt = min x.toInt y.toInt := by
  unfold IntOp.minsi
  simp only [BitVec.sle, decide_eq_true_eq, BitVec.slt]
  split <;> omega

/-- The least number of a place that holds the greatest, 1024 standing for a place that does not, is the first
    greatest place's. -/
theorem minsi_search {l : Fin 1024 → EReal} {k : Fin 1024} (h : IsFirstMax l k) :
    (Finset.univ.fold IntOp.minsi (2147483647#32) fun c : Fin 1024 =>
      if l c = top l then BitVec.ofNat 32 c.val else 1024#32) = BitVec.ofNat 32 k.val := by
  apply BitVec.eq_of_toInt_eq
  rw [← Finset.fold_hom (op := IntOp.minsi) (op' := min) (m := BitVec.toInt) toInt_minsi, toInt_code, top_eq h]
  refine le_antisymm ((Finset.fold_min_le _).2 (.inr ⟨k, Finset.mem_univ _, ?_⟩))
    ((Finset.le_fold_min _).2 ⟨?_, fun c _ => ?_⟩)
  · rw [if_pos rfl, toInt_code]
  · have := k.isLt
    have e : (2147483647#32 : BitVec 32).toInt = 2147483647 := by decide
    omega
  · split
    · rename_i hc
      rw [toInt_code]
      exact_mod_cast h.2 c hc
    · have := k.isLt
      have e : (1024#32 : BitVec 32).toInt = 1024 := by decide
      omega

/-- The kernel's one-hot entry, as a number. -/
theorem hot_entry (c k : Fin 1024) :
    FloatOps.sitofp (F := Ideal) FTy.f32
      (BitVec.setWidth 32 (IntOp.cmpi .eq (BitVec.ofNat 32 c.val) (BitVec.ofNat 32 k.val)))
      = if c = k then (1 : EReal) else 0 := by
  have hinj : BitVec.ofNat 32 c.val = BitVec.ofNat 32 k.val ↔ c = k := by
    constructor
    · intro h
      have := congrArg BitVec.toInt h
      rw [toInt_code, toInt_code] at this
      exact Fin.ext (by exact_mod_cast this)
    · rintro rfl; rfl
  by_cases h : c = k
  · subst h
    simp [IntOp.cmpi, FloatOps.sitofp]
  · have h' : (BitVec.ofNat 32 c.val == BitVec.ofNat 32 k.val) = false := by
      simpa using fun e => h (hinj.1 e)
    simp [IntOp.cmpi, h', h, FloatOps.sitofp]

/-! ## The two softmaxes -/

/-- The exponential is never negative. -/
theorem exp_nonneg (x : EReal) : 0 ≤ Ideal.exp x := by
  induction x with
  | bot => exact le_rfl
  | top => exact le_top
  | coe r => exact EReal.coe_nonneg.2 (Real.exp_pos r).le

/-- The greatest of a row of finite logits contributes one to the sum, so the sum is not zero. -/
theorem mass_ne_zero {l : Fin 1024 → EReal} {k : Fin 1024} (h : IsFirstMax l k) (hb : l k ≠ ⊥) (ht : l k ≠ ⊤) :
    mass l ≠ 0 := by
  have h1 : (1 : EReal) ≤ mass l := by
    have e : Ideal.exp (l k - top l) = 1 := by
      rw [top_eq h]
      lift l k to ℝ using ⟨ht, hb⟩ with r
      rw [← EReal.coe_sub, sub_self]
      show ((Real.exp 0 : ℝ) : EReal) = 1
      simp
    rw [← e]
    exact Finset.single_le_sum (f := fun c => Ideal.exp (l c - top l)) (fun c _ => exp_nonneg _) (Finset.mem_univ k)
  intro h0
  rw [h0] at h1
  exact absurd h1 (by norm_num)

/-- The kernel's product with the reciprocal is the quotient where the divisor is not zero. -/
theorem mul_recip {e s : EReal} (h : s ≠ 0) : e * Ideal.div 1 s = Ideal.div e s := by
  unfold Ideal.div
  rw [if_neg h, if_neg h, one_mul]

end Cert.Rows

end
-- ==== Proof.Finite.lean ====
/- What the precondition gives: real coordinates, so real logits, so a softmax whose sum of exponentials is not zero. -/
module

public import proofs.«01_k».proof.Proof.Rows
public import proofs.«01_k».proof.Proof.RefStages
public import proofs.«01_k».proof.Pre_finite_points
public import Idealize.ShloMosaic.Lib.Pointwise
public import Idealize.ShloMosaic.Lib.ReduceAll
public import Idealize.ShloMosaic.Lib.IdealHost

@[expose] public section

set_option maxRecDepth 16384

noncomputable section

namespace Cert.Finite

open Idealize.ShloMosaic

/-! ## Real numbers among the extended reals -/

/-- `x` is a real number. -/
def IsReal (x : EReal) : Prop := ∃ r : ℝ, x = (r : EReal)

/-- A real number is not the least extended real. -/
theorem IsReal.ne_bot {x : EReal} (h : IsReal x) : x ≠ ⊥ := by
  obtain ⟨r, rfl⟩ := h
  exact EReal.coe_ne_bot r

/-- A real number is not the greatest extended real. -/
theorem IsReal.ne_top {x : EReal} (h : IsReal x) : x ≠ ⊤ := by
  obtain ⟨r, rfl⟩ := h
  exact EReal.coe_ne_top r

/-- An extended real that is neither the least nor the greatest is a real number. -/
theorem IsReal.of_ne {x : EReal} (hb : x ≠ ⊥) (ht : x ≠ ⊤) : IsReal x := ⟨x.toReal, (EReal.coe_toReal ht hb).symm⟩

/-- The sum of real numbers is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The difference of real numbers is real. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- The product of real numbers is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The negation of a real number is real. -/
theorem IsReal.neg {x : EReal} (hx : IsReal x) : IsReal (-x) := by
  obtain ⟨r, rfl⟩ := hx
  exact ⟨-r, (EReal.coe_neg r).symm⟩

/-- A finite sum of real numbers is real. -/
theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

/-- An absolute value below infinity is that of a real number. -/
theorem IsReal.of_abs_lt {x : EReal} (h : max x (-x) < ⊤) : IsReal x := by
  refine .of_ne ?_ ?_
  · rintro rfl
    simp at h
  · rintro rfl
    simp at h

/-! ## The constants -/

/-- The word of two is a real number. -/
theorem two_real : IsReal (Ideal.ofBits .f32 0x40000000#32) :=
  ⟨2, by simp [Ideal.ofBits, Ideal.ieee, -EReal.coe_mul]; norm_num⟩

/-- The word of a half is a real number. -/
theorem half_real : IsReal (Ideal.ofBits .f32 0x3F000000#32) :=
  ⟨1 / 2, by simp [Ideal.ofBits, Ideal.ieee, -EReal.coe_mul]; norm_num⟩

/-- The word of infinity is the greatest extended real. -/
theorem top_eq : Ideal.ofBits .f32 0x7F800000#32 = ⊤ := by
  simp [Ideal.ofBits, Ideal.ieee]

/-! ## The logits -/

/-- The precision is real whatever its parameter: its divisor is at least one. -/
theorem precision_real (p : FVec Ideal Cert.ReferenceIdeal.S_ .f32) :
    IsReal (RefStages.precision (F := Ideal) p ix0) := by
  have e : RefStages.precision (F := Ideal) p ix0
      = Ideal.div (Ideal.ofBits .f32 0x3F000000#32)
          (max (Ideal.ofBits .f32 0x3F800000#32 + Ideal.exp (p ix0)) (Ideal.ofBits .f32 0x2EDBE6FF#32)) := rfl
  rw [e, Ideal.ofBits_one_f32]
  generalize Ideal.ofBits .f32 0x2EDBE6FF#32 = tiny
  have h1 : (1 : EReal) ≤ max (1 + Ideal.exp (p ix0)) tiny :=
    le_max_of_le_left (le_add_of_nonneg_right (Rows.exp_nonneg _))
  generalize max (1 + Ideal.exp (p ix0)) tiny = y at h1
  have h0 : y ≠ 0 := fun h => absurd (h ▸ h1) (by norm_num)
  unfold Ideal.div
  rw [if_neg h0]
  refine half_real.mul ?_
  rcases eq_or_ne y ⊤ with rfl | ht
  · exact ⟨0, by simp⟩
  · obtain ⟨r, rfl⟩ := IsReal.of_ne (x := y) ((EReal.bot_lt_zero.trans (zero_lt_one.trans_le h1)).ne') ht
    exact ⟨r⁻¹, (EReal.coe_inv r).symm⟩

/-- The logits of real points over real codes at a real precision are real. -/
theorem logit_real {x w : Fin 256 → EReal} {q : EReal} (hx : ∀ d, IsReal (x d)) (hw : ∀ d, IsReal (w d))
    (hq : IsReal q) : IsReal (Rows.logit x w q) :=
  ((((IsReal.sum _ _ fun d => (hx d).mul (hx d)).add (IsReal.sum _ _ fun d => (hw d).mul (hw d))).sub
    (two_real.mul (IsReal.sum _ _ fun d => (hx d).mul (hw d)))).neg).mul hq

/-! ## The precondition -/

/-- The shape relations the precondition's operations take. -/
theorem facts : Cert.Pre_finite_points.Facts where
  bcast_S_S64x576x256 := by decide
  reducesTo_S64x576x256_S_d0_1_2 := by decide
  h_S_ := by decide
  bcast_S_S1024x256 := by decide
  reducesTo_S1024x256_S_d0_1 := by decide

instance : Subsingleton Cert.Pre_finite_points.S_.Idx := ⟨fun _ _ => funext fun a => a.elim0⟩

/-- Where the precondition holds, every coordinate of the points and of the codebook is a real number. -/
theorem reals [Cert.Pre_finite_points.Facts] {ze : FVec Ideal Cert.Pre_finite_points.S64x576x256 .f32}
    {book : FVec Ideal Cert.Pre_finite_points.S1024x256 .f32} {p : FVec Ideal Cert.Pre_finite_points.S_ .f32}
    {n : IVec Cert.Pre_finite_points.S_ 32} (h : Cert.Pre_finite_points.fn (F := Ideal) ze book p n = fun _ => 1#1) :
    (∀ i, IsReal (ze i)) ∧ ∀ i, IsReal (book i) := by
  have both : ∀ a b : BitVec 1, IntOp.andi a b = 1#1 → a = 1#1 ∧ b = 1#1 := by decide
  have below : ∀ x : EReal, Ideal.cmp .olt (max x (-x)) (Ideal.ofBits .f32 0x7F800000#32) = 1#1 → IsReal x := by
    intro x hx
    rw [top_eq] at hx
    refine .of_abs_lt ?_
    by_contra hn
    simp [Ideal.cmp, hn] at hx
  unfold Cert.Pre_finite_points.fn at h
  obtain ⟨hz, hb⟩ := both _ _ (congrFun h ix0)
  exact ⟨fun i => below _ (Host.reduce_andi_all _ _ _ _ _ hz i), fun i => below _ (Host.reduce_andi_all _ _ _ _ _ hb i)⟩

end Cert.Finite

end
-- ==== Proof.Blocks.lean ====
/- One grid point of the kernel: what it computes from the blocks it is given, read at an element. -/
module

public import proofs.«01_k».proof.Proof.Rows
public import proofs.«01_k».proof.Proof.Gen.KernelIdeal.Frame

@[expose] public section

set_option maxRecDepth 16384

noncomputable section

namespace Cert.Blocks

open Idealize.ShloMosaic Cert.KernelIdeal Cert.KernelIdeal.Gen

variable (q : EReal) (w : Vec Ideal S1024x256 .f32) (z : Vec Ideal S1x576x256 .f32)

/-- Coordinate `d` of point `r` of the item `z`: the item's values, laid out one point after another, cut in rows of
    256. -/
def point (r : Fin 576) (d : Fin 256) : EReal :=
  z (ix3 0 ⟨(r.val * 256 + d.val) % 576, Nat.mod_lt _ (by norm_num)⟩ ⟨(r.val * 256 + d.val) / 576, by omega⟩)

/-- The logits of point `r` over the codes. -/
def logitsOf (r : Fin 576) (c : Fin 1024) : EReal :=
  Rows.logit (point z r) (fun d => w (ix2 c d)) q

/-! ## The points -/

set_option maxHeartbeats 2000000 in
/-- The kernel's pieces, joined, are the points. -/
theorem points_at (r : Fin 576) (d : Fin 256) : k0_pay4 z (ix2 r d) = point z r d := by
  have hr := r.isLt
  have hd := d.isLt
  pointwise [k0_pay4, point]
  split_ifs
  all_goals (congr 2 <;> (refine Fin.ext ?_; simp only [Fin.coe_ofNat_eq_mod]; omega))

/-! ## The logits and the two softmaxes -/

/-- The logits as the body passes them on. -/
abbrev logitsTable : FVec Ideal S576x1024 .f32 := k0_pay7 (F := Ideal) q (k0_pay3 w) (k0_pay5 w z) (k0_pay6 z)

/-- The kernel's logits. -/
theorem logits_at (r : Fin 576) (c : Fin 1024) : logitsTable q w z (ix2 r c) = logitsOf q w z r c := by
  have h6 : ∀ d, k0_pay6 z (ix2 r d) = point z r d * point z r d := fun d => by
    pointwise [k0_pay6]
    rw [points_at]
  have h5 : k0_pay5 w z (ix2 r c) = ∑ d, point z r d * w (ix2 c d) := by
    pointwise [k0_pay5]
    simp only [points_at]
  have h3 : k0_pay3 w (ix2 0 c) = ∑ d, w (ix2 c d) * w (ix2 c d) := by
    pointwise [k0_pay3]
  pointwise [logitsTable, k0_pay7]
  simp only [h6, h5, h3]
  unfold logitsOf Rows.logit
  rw [zero_sub]

/-- The kernel's greatest logit of a row. -/
theorem top_at (r : Fin 576) :
    k0_pay8 (F := Ideal) q (k0_pay3 w) (k0_pay5 w z) (k0_pay6 z) (ix2 r 0) = Rows.top (logitsOf q w z r) := by
  pointwise [k0_pay8]
  simp only [logits_at]
  rfl

/-- The kernel's exponentials. -/
theorem exp_at (r : Fin 576) (c : Fin 1024) :
    k0_pay9 (F := Ideal) q (k0_pay3 w) (k0_pay5 w z) (k0_pay6 z) (ix2 r c)
      = Ideal.exp (logitsOf q w z r c - Rows.top (logitsOf q w z r)) := by
  pointwise [k0_pay9]
  rw [top_at]
  exact congrArg (fun t => Ideal.exp (t - _)) (logits_at q w z r c)

/-- The kernel's sums of exponentials. -/
theorem mass_at (r : Fin 576) :
    k0_pay10 (F := Ideal) q (k0_pay3 w) (k0_pay5 w z) (k0_pay6 z) (ix2 r 0) = Rows.mass (logitsOf q w z r) := by
  pointwise [k0_pay10]
  simp only [exp_at]
  rfl

/-- The kernel's probabilities: the exponentials times the reciprocal of their sum. -/
theorem prob_at (r : Fin 576) (c : Fin 1024) :
    k0_pay11 (F := Ideal) q (k0_pay3 w) (k0_pay5 w z) (k0_pay6 z) (ix2 r c)
      = Ideal.exp (logitsOf q w z r c - Rows.top (logitsOf q w z r))
          * Ideal.div 1 (Rows.mass (logitsOf q w z r)) := by
  pointwise [k0_pay11]
  rw [exp_at, mass_at]

/-- The kernel's log-probabilities. -/
theorem logProb_at (r : Fin 576) (c : Fin 1024) :
    k0_pay12 (F := Ideal) q (k0_pay3 w) (k0_pay5 w z) (k0_pay6 z) (ix2 r c)
      = Rows.logSoft (logitsOf q w z r) c := by
  pointwise [k0_pay12]
  rw [top_at, mass_at]
  exact congrArg (fun t => t - _ - _) (logits_at q w z r c)

/-! ## The picked codes -/

/-- The kernel's picked codes, nine points to a group. -/
theorem pick_at (s : Fin 64) (t : Fin 9) (d : Fin 256) (k : Fin 1024)
    (hk : Argmax.IsFirstMax (logitsOf q w z ⟨s.val * 9 + t.val, by omega⟩) k) :
    k0_pay13 (F := Ideal) q w (k0_pay3 w) (k0_pay5 w z) (k0_pay6 z) (ix3 s t d)
      = Rows.pick k (fun c d => w (ix2 c d)) d := by
  pointwise [k0_pay13]
  simp only [logits_at, top_at, Rows.minsi_search hk, Rows.hot_entry]
  rfl

/-- The first group's slice of the picked codes, as the body passes it on. -/
theorem first_eq :
    k0_pay14 (F := Ideal) q w (k0_pay3 w) (k0_pay5 w z) (k0_pay6 z)
      = shapeCast S64x256 (extractStridedSlice S64x1x256 ![0, 0, 0]
          (k0_pay13 (F := Ideal) q w (k0_pay3 w) (k0_pay5 w z) (k0_pay6 z)) slices_S64x9x256_o0_0_0_S64x1x256)
          shapeCasts_S64x1x256_S64x256 := rfl

/-- The kernel's pieces of the picked codes, joined: point `m`'s coordinate `n` is the value at place `576 n + m` of
    the picked codes laid out one after another. -/
theorem rejoin_at (x : FVec Ideal S64x9x256 .f32) (m : Fin 576) (n : Fin 256) :
    k0_pay1 x (shapeCast S64x256 (extractStridedSlice S64x1x256 ![0, 0, 0] x slices_S64x9x256_o0_0_0_S64x1x256)
        shapeCasts_S64x1x256_S64x256) (ix3 0 m n)
      = x (ix3 ⟨(n.val * 576 + m.val) / 256 / 9, by omega⟩ ⟨(n.val * 576 + m.val) / 256 % 9, by omega⟩
          ⟨(n.val * 576 + m.val) % 256, Nat.mod_lt _ (by norm_num)⟩) := by
  have hm := m.isLt
  have hn := n.isLt
  pointwise [k0_pay1]
  split_ifs
  all_goals first
    | contradiction
    | (congr 2 <;> (refine Fin.ext ?_; simp only [Fin.coe_ofNat_eq_mod]; omega))

/-- The kernel's quantized block. -/
theorem quantized_at (m : Fin 576) (n : Fin 256) (k : Fin 1024)
    (hk : Argmax.IsFirstMax (logitsOf q w z ⟨(n.val * 576 + m.val) / 256, by omega⟩) k) :
    k0_pay1 (k0_pay13 (F := Ideal) q w (k0_pay3 w) (k0_pay5 w z) (k0_pay6 z))
        (k0_pay14 (F := Ideal) q w (k0_pay3 w) (k0_pay5 w z) (k0_pay6 z)) (ix3 0 m n)
      = Rows.pick k (fun c d => w (ix2 c d)) ⟨(n.val * 576 + m.val) % 256, Nat.mod_lt _ (by norm_num)⟩ := by
  rw [first_eq, rejoin_at]
  refine pick_at q w z _ _ _ k ?_
  have e : (n.val * 576 + m.val) / 256 / 9 * 9 + (n.val * 576 + m.val) / 256 % 9 = (n.val * 576 + m.val) / 256 := by
    omega
  simpa only [e] using hk

end Cert.Blocks

end
-- ==== Proof.OneHot.lean ====
/- The reference's one-hot table at an element: one where the column is the row's code, zero elsewhere. -/
module

public import proofs.«01_k».proof.Proof.RefStages
public import Idealize.ShloMosaic.Lib.Pointwise
public import Idealize.ShloMosaic.Lib.Routing.OpsPair
public import Idealize.ShloMosaic.Lib.Routing.OpsSet

@[expose] public section

namespace Cert.RefStages

open Idealize.ShloMosaic Cert.ReferenceIdeal Cert.ReferenceIdeal.Gen

/-- The place where update `r` of the scatter starts on axis `a`: component `a` of row `r` of the indices, read signed. -/
theorem scatter_start (idx : IVec S36864x2 32) (r : Fin 36864) (a : Fin 2) :
    scatter_S36864x1024_S36864x2_S36864_n_01_01_1.start (ix1 r) idx a = (idx (ix2 r a)).toInt := by
  unfold ScatterDims.start
  rw [dif_pos (by fin_cases a <;> decide)]
  congr 2
  funext b
  fin_cases a <;> fin_cases b <;> rfl

/-- The updates of the scatter are single elements: their window has no extent. -/
theorem scatter_window (r : Fin 36864) (a : Fin 2) :
    scatter_S36864x1024_S36864x2_S36864_n_01_01_1.window (ix1 r) a = 0 := by
  fin_cases a <;> rfl

/-- Update `r` lands at row `i`, column `c` exactly when its two index words, read signed, are `i` and `c`. -/
theorem scatter_lands (idx : IVec S36864x2 32) (r i : Fin 36864) (c : Fin 1024) :
    scatter_S36864x1024_S36864x2_S36864_n_01_01_1.resultIdx? (ix1 r) idx = some (ix2 i c)
      ↔ (idx (ix2 r 0)).toInt = i.val ∧ (idx (ix2 r 1)).toInt = c.val := by
  rw [Routing.resultIdx?_eq_some]
  constructor
  · intro h
    have h0 := h 0
    have h1 := h 1
    rw [scatter_start, scatter_window] at h0 h1
    exact ⟨by simpa using h0, by simpa using h1⟩
  · rintro ⟨h0, h1⟩ a
    rw [scatter_start, scatter_window]
    fin_cases a
    · simpa using h0
    · simpa using h1

/-- The word of a small number, read as a signed integer. -/
theorem toInt_small (k : Nat) (h : k < 36864) : (BitVec.ofNat 32 k).toInt = k := by
  have hn : (BitVec.ofNat 32 k).toNat = k := by
    rw [BitVec.toNat_ofNat]
    exact Nat.mod_eq_of_lt (by omega)
  rw [BitVec.toInt_eq_toNat_of_lt (by omega), hn]

/-- The row numbers are not negative, so they stay. -/
theorem rowNumbers_apply (r : Fin 36864) : rowNumbers (ix1 r) = BitVec.ofNat 32 r.val := by
  refine Routing.wrap_of_lt (BitVec.ofNat 32 r.val) _ ?_
  have := r.isLt
  rw [BitVec.toNat_ofNat]
  exact (Nat.mod_le _ _).trans_lt (by omega)

/-- A code number is not negative, so it stays. -/
theorem codeNumbers_apply (k : IVec S36864 32) (r : Fin 36864) (c : Fin 1024) (hk : k (ix1 r) = BitVec.ofNat 32 c.val) :
    codeNumbers k (ix1 r) = BitVec.ofNat 32 c.val := by
  have := c.isLt
  refine (Routing.wrap_of_lt (k (ix1 r)) _ ?_).trans hk
  rw [hk, BitVec.toNat_ofNat]
  exact (Nat.mod_le _ _).trans_lt (by omega)

/-- Two columns side by side, at an element. -/
theorem pairUp_apply (a b : IVec S36864 32) (r : Fin 36864) :
    pairUp (broadcastInDim S36864x1 ![0] bcast_S36864_S36864x1_0 a)
        (broadcastInDim S36864x1 ![0] bcast_S36864_S36864x1_0 b) (ix2 r 0) = a (ix1 r)
    ∧ pairUp (broadcastInDim S36864x1 ![0] bcast_S36864_S36864x1_0 a)
        (broadcastInDim S36864x1 ![0] bcast_S36864_S36864x1_0 b) (ix2 r 1) = b (ix1 r) := by
  constructor
  · pointwise [pairUp]
  · pointwise [pairUp]

/-- The one-hot table at an element. -/
theorem oneHot_apply (k : IVec S36864 32) (code : Fin 36864 → Fin 1024)
    (hk : ∀ r, k (ix1 r) = BitVec.ofNat 32 (code r).val) (r : Fin 36864) (c : Fin 1024) :
    oneHot (F := Ideal) k (ix2 r c) = if c = code r then (1 : EReal) else 0 := by
  have hone : ∀ j : S36864.Idx,
      broadcastInDim S36864 ![] bcast_S_S36864 (constant (F := Ideal) S_ .f32 0x3F800000#32) j = (1 : EReal) :=
    fun _ => Ideal.ofBits_one_f32
  have hlands : ∀ i : Fin 36864,
      scatter_S36864x1024_S36864x2_S36864_n_01_01_1.resultIdx? (ix1 i)
        (pairUp (broadcastInDim S36864x1 ![0] bcast_S36864_S36864x1_0 rowNumbers)
          (broadcastInDim S36864x1 ![0] bcast_S36864_S36864x1_0 (codeNumbers k))) = some (ix2 r c)
        ↔ i = r ∧ code i = c := by
    intro i
    rw [scatter_lands, (pairUp_apply _ _ i).1, (pairUp_apply _ _ i).2, rowNumbers_apply,
      codeNumbers_apply k i (code i) (hk i), toInt_small _ i.isLt, toInt_small _ (by omega)]
    simp only [Nat.cast_inj, Fin.ext_iff]
  unfold oneHot
  by_cases h : c = code r
  · rw [if_pos h]
    exact Routing.scatter_set_hit _ _ _ _ _ (1 : EReal) (fun j _ => hone j) (ix1 r) ((hlands r).2 ⟨rfl, h.symm⟩)
  · rw [if_neg h, Routing.scatter_set_miss]
    · exact Ideal.ofBits_zero_f32
    · intro j hj
      rw [eq_ix1 j] at hj
      obtain ⟨e, e'⟩ := (hlands (j 0)).1 hj
      exact h (e ▸ e'.symm)

end Cert.RefStages
-- ==== Proof.RefRows.lean ====
/- The reference's tables at an element, row by row: the logits, the softmax, the log-softmax and the picked codes. -/
module

public import proofs.«01_k».proof.Proof.Rows
public import proofs.«01_k».proof.Proof.OneHot

@[expose] public section

set_option maxRecDepth 16384

namespace Cert.RefStages

open Idealize.ShloMosaic Cert.ReferenceIdeal Cert.ReferenceIdeal.Gen

/-- The reference's logits at an element. -/
theorem logits_row (x : FVec Ideal S36864x256 .f32) (book : FVec Ideal S1024x256 .f32) (q : FVec Ideal S_ .f32)
    (r : Fin 36864) (c : Fin 1024) :
    logits x book q (ix2 r c) = Rows.logit (fun d => x (ix2 r d)) (fun d => book (ix2 c d)) (q ix0) := by
  pointwise [logits, Rows.logit]

/-- The greatest of the rows of a table, as the reference reduces it. -/
theorem hostMax_row {n : Nat} (l : FVec Ideal ⟨2, ![n, 1024]⟩ .f32)
    (h : (⟨2, ![n, 1024]⟩ : Shape).ReducesTo [1] ⟨1, ![n]⟩) (hu : 0 < S_.numel) (r : Fin n) :
    Host.reduce FloatOps.maximumf l (constant (F := Ideal) S_ .f32 0xFF800000#32) h hu (ix1 r)
      = Rows.top fun c => l (ix2 r c) := by
  pointwise [Rows.top]

/-- A table less a value per row, the value bounded below by the word of the least value. -/
theorem less_row (l : FVec Ideal S36864x1024 .f32) (m : FVec Ideal S36864 .f32) (r : Fin 36864) (c : Fin 1024) :
    subf l (broadcastInDim S36864x1024 ![0, 1] bcast_S36864x1_S36864x1024_0_1
      (broadcastInDim S36864x1 ![0] bcast_S36864_S36864x1_0
        (maximumf (broadcastInDim S36864 ![] bcast_S_S36864 (constant (F := Ideal) S_ .f32 0xFF800000#32)) m))) (ix2 r c)
      = l (ix2 r c) - max (Ideal.ofBits .f32 0xFF800000#32) (m (ix1 r)) := by
  pointwise

/-- The logits less their greatest, at an element. -/
theorem shifted_row (l : FVec Ideal S36864x1024 .f32) (r : Fin 36864) (c : Fin 1024) :
    shifted l (ix2 r c) = l (ix2 r c) - Rows.top fun c => l (ix2 r c) := by
  unfold shifted
  rw [less_row, hostMax_row, Rows.max_top]

/-- The reference's softmax at an element. -/
theorem softmax_row (l : FVec Ideal S36864x1024 .f32) (r : Fin 36864) (c : Fin 1024) :
    softmax l (ix2 r c) = Rows.soft (fun c => l (ix2 r c)) c := by
  pointwise [softmax, expSum]
  simp only [shifted_row]
  rfl

/-- The reference's log-softmax at an element. -/
theorem logSoftmax_row (l : FVec Ideal S36864x1024 .f32) (r : Fin 36864) (c : Fin 1024) :
    logSoftmax l (ix2 r c) = Rows.logSoft (fun c => l (ix2 r c)) c := by
  pointwise [logSoftmax, expSum]
  simp only [shifted_row]
  rfl

/-- The reference's number of the nearest code: the word of the first greatest place of the row. -/
theorem nearest_row (l : FVec Ideal S36864x1024 .f32) (r : Fin 36864) :
    ∃ k : Fin 1024, nearest l (ix1 r) = BitVec.ofNat 32 k.val ∧ Argmax.IsFirstMax (fun c => l (ix2 r c)) k := by
  have hy : ∀ i : S36864x1024.Idx, iotaInDim S36864x1024 32 1 i = BitVec.ofNat 32 (i 1).val := fun _ => rfl
  have hx : ∀ i : S_.Idx, constant (F := Ideal) S_ .f32 0xFF800000#32 i = (⊥ : EReal) := fun _ => Rows.ofBits_bot
  have hc : ∀ i : S_.Idx, constantI S_ 32 0#32 i = 0#32 := fun _ => rfl
  have e : nearest l = fun j => (Host.argReduce reducer_argmax_f32_i32 l (iotaInDim S36864x1024 32 1)
    (constant S_ .f32 0xFF800000#32) (constantI S_ 32 0#32) reducesTo_S36864x1024_S36864_d1 h_S_ j).2 := rfl
  rw [e]
  exact Argmax.argmax_row l _ hy _ _ hx hc _ _ r

/-- The reference's quantized result at an element. -/
theorem quantized_row (l : FVec Ideal S36864x1024 .f32) (book : FVec Ideal S1024x256 .f32)
    (b : Fin 64) (m : Fin 576) (n : Fin 256) :
    ∃ k : Fin 1024,
      Argmax.IsFirstMax (fun c => l (ix2 ⟨b.val * 576 + (n.val * 576 + m.val) / 256, by omega⟩ c)) k
      ∧ quantized (oneHot (nearest l)) book (ix3 b m n)
        = Rows.pick k (fun c d => book (ix2 c d)) ⟨(n.val * 576 + m.val) % 256, Nat.mod_lt _ (by norm_num)⟩ := by
  choose code hcode hfirst using nearest_row l
  refine ⟨_, hfirst _, ?_⟩
  pointwise [quantized]
  simp only [oneHot_apply _ code hcode]
  have e1 : (b.val * 147456 + n.val * 576 + m.val) / 256 = b.val * 576 + (n.val * 576 + m.val) / 256 := by omega
  have e2 : (b.val * 147456 + n.val * 576 + m.val) % 256 = (n.val * 576 + m.val) % 256 := by omega
  simp only [e1, e2]
  rfl

/-- A table of rows cut into items, at an element. -/
theorem byItem_row (l : FVec Ideal S36864x1024 .f32) (b : Fin 64) (m : Fin 576) (c : Fin 1024) :
    byItem l (ix3 b m c) = l (ix2 ⟨b.val * 576 + m.val, by omega⟩ c) := by
  pointwise [byItem]

/-- Point `r` of item `b`, at coordinate `d`. -/
theorem points_row (ze : FVec Ideal S64x576x256 .f32) (b : Fin 64) (r : Fin 576) (d : Fin 256) :
    points ze (ix2 ⟨b.val * 576 + r.val, by omega⟩ d)
      = ze (ix3 b ⟨(r.val * 256 + d.val) % 576, Nat.mod_lt _ (by norm_num)⟩ ⟨(r.val * 256 + d.val) / 576, by omega⟩) := by
  pointwise [points]
  congr 2 <;> exact Fin.ext (by simp only []; omega)

end Cert.RefStages
-- ==== Proof.Equation.lean ====
/- The equation: from the same points, codebook and precision, the kernel's arrays are the reference's. -/
module

public import proofs.«01_k».proof.Proof.Blocks
public import proofs.«01_k».proof.Proof.KerRun
public import proofs.«01_k».proof.Proof.RefRows
public import proofs.«01_k».proof.Proof.Finite

@[expose] public section

set_option maxRecDepth 16384

noncomputable section

namespace Cert.Equation

open Idealize.ShloMosaic Cert.KernelIdeal Cert.Arrays Cert.KerRun

variable (ze : FVec Ideal S64x576x256 .f32) (book : FVec Ideal S1024x256 .f32) (q : FVec Ideal S_ .f32)

/-- The scalar the body reads is the precision. -/
theorem asBlock_at : asBlock q (ix2 0 0) = q ix0 := by
  pointwise [asBlock]

/-- The logits the reference computes. -/
def refLogits : FVec Ideal S36864x1024 .f32 := RefStages.logits (RefStages.points ze) book q

/-- The reference's logits of a point are those the kernel computes of it at the grid point of its item. -/
theorem logits_eq (b : Fin 64) (r : Fin 576) :
    (fun c => refLogits ze book q (ix2 ⟨b.val * 576 + r.val, by omega⟩ c))
      = Blocks.logitsOf (q ix0) book (item ze b) r := by
  funext c
  rw [refLogits, RefStages.logits_row]
  unfold Blocks.logitsOf
  congr 1
  funext d
  exact RefStages.points_row ze b r d

/-- The kernel's array of rows, cut into items, at an element: a value of the block of its item. -/
theorem stacked_row (f : Vec Ideal S1x576x256 .f32 → Vec Ideal S576x1024 .f32) (b : Fin 64) (r : Fin 576)
    (c : Fin 1024) :
    RefStages.byItem (F := Ideal) (stacked ze f) (ix3 b r c) = f (item ze b) (ix2 r c) := by
  rw [RefStages.byItem_row]
  exact (stacked_at ze f b (ix2 r c) _ rfl rfl).symm

/-- The quantized vectors. -/
theorem quantized_eq :
    RefStages.quantized (F := Ideal) (RefStages.oneHot (RefStages.nearest (refLogits ze book q))) book
      = quantArray (asBlock q) book ze := by
  funext i
  obtain ⟨b, m, n, rfl⟩ : ∃ (b : Fin 64) (m : Fin 576) (n : Fin 256), i = ix3 b m n := ⟨i 0, i 1, i 2, eq_ix3 i⟩
  obtain ⟨k, hk, e⟩ := RefStages.quantized_row (refLogits ze book q) book b m n
  rw [e]
  rw [logits_eq ze book q b ⟨(n.val * 576 + m.val) / 256, by omega⟩] at hk
  have h := Blocks.quantized_at (q ix0) book (item ze b) m n k hk
  unfold quantArray quantBlock
  rw [asBlock_at]
  exact h.symm

/-- The log-probabilities. -/
theorem logProb_eq :
    RefStages.byItem (F := Ideal) (RefStages.logSoftmax (refLogits ze book q))
      = RefStages.byItem (F := Ideal) (stacked ze (logProbBlock (asBlock q) book)) := by
  funext i
  obtain ⟨b, r, c, rfl⟩ : ∃ (b : Fin 64) (r : Fin 576) (c : Fin 1024), i = ix3 b r c := ⟨i 0, i 1, i 2, eq_ix3 i⟩
  rw [stacked_row, RefStages.byItem_row, RefStages.logSoftmax_row, logits_eq]
  unfold logProbBlock
  rw [asBlock_at, Blocks.logProb_at]

/-- The probabilities, where the points, the codebook and the precision are real: the greatest logit is then real, so
    the exponentials' sum is not zero and dividing by it is multiplying by its reciprocal. -/
theorem prob_eq (hz : ∀ i, Finite.IsReal (ze i)) (hb : ∀ i, Finite.IsReal (book i)) (hq : Finite.IsReal (q ix0)) :
    RefStages.byItem (F := Ideal) (RefStages.softmax (refLogits ze book q))
      = RefStages.byItem (F := Ideal) (stacked ze (probBlock (asBlock q) book)) := by
  funext i
  obtain ⟨b, r, c, rfl⟩ : ∃ (b : Fin 64) (r : Fin 576) (c : Fin 1024), i = ix3 b r c := ⟨i 0, i 1, i 2, eq_ix3 i⟩
  obtain ⟨k, -, hk⟩ := RefStages.nearest_row (refLogits ze book q) ⟨b.val * 576 + r.val, by omega⟩
  rw [stacked_row, RefStages.byItem_row, RefStages.softmax_row, logits_eq]
  rw [logits_eq] at hk
  have hl : Finite.IsReal (Blocks.logitsOf (q ix0) book (item ze b) r k) :=
    Finite.logit_real (fun _ => hz _) (fun _ => hb _) hq
  unfold probBlock
  rw [asBlock_at, Blocks.prob_at, Rows.mul_recip (Rows.mass_ne_zero hk hl.ne_bot hl.ne_top)]
  rfl

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.KerRun
public import proofs.«01_k».proof.Proof.Finite
public import proofs.«01_k».proof.Proof.Equation

@[expose] public section

set_option maxRecDepth 16384

noncomputable section

namespace Cert.Proof

open Idealize.ShloMosaic Idealize.SL.Sem

/-- From equal arguments whose points and codebook are finite, the idealization and the reference end with the same four
    results: each is the reference's mathematics of the arguments. -/
theorem equal :
    algebraic_KernelIdeal_ReferenceIdeal_pre_finite_points (hKernelIdeal := Cert.KernelIdeal.Gen.facts)
      (hReferenceIdeal := Cert.ReferenceIdeal.Gen.facts) (hPre_finite_points := Cert.Finite.facts) := by
  intro m g m' g' pre args
  haveI : Cert.Pre_finite_points.Facts := Cert.Finite.facts
  refine ⟨_, _, _, _, KerRun.run m g, (θ_run Cert.ReferenceIdeal.defs _ _).mono (fun r h c => ?_)
    (RefStages.run (F := Ideal) m' g')⟩
  obtain ⟨hq, hp, hs, hl, h0, h1, h2, h3⟩ := h c
  obtain ⟨a0, a1, a2, -⟩ := args c
  obtain ⟨hz, hb⟩ := Finite.reals (pre c)
  rw [a0, a1, a2] at hq hs hl
  rw [a2] at hp
  exact ⟨hq.trans (Equation.quantized_eq _ _ _), hp,
    hs.trans (Equation.prob_eq _ _ _ hz hb (Finite.precision_real _)), hl.trans (Equation.logProb_eq _ _ _),
    h0, h1, h2, h3⟩

/-- The claims. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => RefStages.frame m g,
    fun m g _ => RefStages.frame m g,
    trivial,
    equal⟩

end Cert.Proof

end
